-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x1024 : Shape := ⟨2, ![1024, 1024]⟩
abbrev S1024x512 : Shape := ⟨2, ![1024, 512]⟩
abbrev S8192x512 : Shape := ⟨2, ![8192, 512]⟩
abbrev S512x1024 : Shape := ⟨2, ![512, 1024]⟩
abbrev S2x512x512 : Shape := ⟨3, ![2, 512, 512]⟩
abbrev S8x512x1024 : Shape := ⟨3, ![8, 512, 1024]⟩
abbrev S_ : Shape := ⟨0, ![]⟩
abbrev S2 : Shape := ⟨1, ![2]⟩
abbrev S7x2 : Shape := ⟨2, ![7, 2]⟩
abbrev S256x1024 : Shape := ⟨2, ![256, 1024]⟩
abbrev S1x256x1024 : Shape := ⟨3, ![1, 256, 1024]⟩
abbrev S1x1 : Shape := ⟨2, ![1, 1]⟩
abbrev S512x512 : Shape := ⟨2, ![512, 512]⟩
abbrev S1x512x512 : Shape := ⟨3, ![1, 512, 512]⟩
abbrev S1 : Shape := ⟨1, ![1]⟩
abbrev S256x512 : Shape := ⟨2, ![256, 512]⟩
abbrev S1x256x512 : Shape := ⟨3, ![1, 256, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x512, .f32⟩
  | .hbm, ⟨3, _⟩ => ⟨S8192x512, .f32⟩
  | .local _ .vmem, ⟨0, _⟩ => ⟨S1024x1024, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S2x512x512, .f32⟩
  | .local _ .vmem, ⟨5, _⟩ => ⟨S8x512x1024, .bf16⟩
  | .local _ .vmem, ⟨6, _⟩ => ⟨S8x512x1024, .bf16⟩
  | .local _ .vmem, ⟨7, _⟩ => ⟨S8192x1024, .bf16⟩
  | .local _ .vmem, ⟨8, _⟩ => ⟨S1024x1024, .bf16⟩
  | .local _ .vmem, ⟨9, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.addi v2 c8_i32_5
  let c1_i32_6 : BitVec 32 := 1#32
  let v9 : BitVec 32 := Scalar.subi v8 c1_i32_6
  let c8_i32_7 : BitVec 32 := 8#32
  let v10 : BitVec 32 := Scalar.remsi v9 c8_i32_7
  let c1024_i32 : BitVec 32 := 1024#32
  let v13 : BitVec 32 := Scalar.muli v10 c1024_i32
  let c0_i32 : BitVec 32 := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v11 : BitVec 32 := Scalar.addi v2 c1_i32_8
  let c8_i32_9 : BitVec 32 := 8#32
  let v12 : BitVec 32 := Scalar.remsi v11 c8_i32_9
  let c1024_i32_10 : BitVec 32 := 1024#32
  let v14 : BitVec 32 := Scalar.muli v12 c1024_i32_10
  let c512_i32 : BitVec 32 := 512#32
  let v15 : BitVec 32 := Scalar.addi v14 c512_i32
  let c0_i32_11 : BitVec 32 := 0#32
  ![v15.toNat, 0]
def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_20 : BitVec 32 := 1#32
  let v31 : BitVec 32 := Scalar.muli v7 c1_i32_20
  let v32 : BitVec 32 := Scalar.addi c0_i32_21 v31
  v32.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_23 : BitVec 32 := 1#32
  let v33 : BitVec 32 := Scalar.muli v4 c1_i32_23
  let v34 : BitVec 32 := Scalar.addi c0_i32_24 v33
  v34.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_37 : BitVec 32 := 1#32
  let v44 : BitVec 32 := Scalar.muli v4 c1_i32_37
  let v45 : BitVec 32 := Scalar.addi c0_i32_38 v44
  v45.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_58 : BitVec 32 := 1#32
  let v63 : BitVec 32 := Scalar.muli v7 c1_i32_58
  let v64 : BitVec 32 := Scalar.addi c0_i32_59 v63
  v64.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_77 : BitVec 32 := 1#32
  let v81 : BitVec 32 := Scalar.muli v4 c1_i32_77
  let v82 : BitVec 32 := Scalar.addi c0_i32_78 v81
  v82.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_96 : BitVec 32 := 1#32
  let v99 : BitVec 32 := Scalar.muli v7 c1_i32_96
  let v100 : BitVec 32 := Scalar.addi c0_i32_97 v99
  v100.toNat
def k0_off3 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v109 : BitVec 32 := Scalar.addi v2 c16_i32
  let c2_i32_102 : BitVec 32 := 2#32
  let v110 : BitVec 32 := Scalar.subi v109 c2_i32_102
  let v111 : BitVec 32 := Scalar.subi v110 c0_i32_103
  let c8_i32_104 : BitVec 32 := 8#32
  let v112 : BitVec 32 := Scalar.remsi v111 c8_i32_104
  let c1024_i32_108 : BitVec 32 := 1024#32
  let v116 : BitVec 32 := Scalar.muli v112 c1024_i32_108
  let c0_i32_111 : BitVec 32 := 0#32
  ![v116.toNat, 0]
def k0_off4 (d0 : Dev nD) (c0_i32_106 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_105 : BitVec 32 := 2#32
  let v113 : BitVec 32 := Scalar.addi v2 c2_i32_105
  let v114 : BitVec 32 := Scalar.addi v113 c0_i32_106
  let c8_i32_107 : BitVec 32 := 8#32
  let v115 : BitVec 32 := Scalar.remsi v114 c8_i32_107
  let c1024_i32_109 : BitVec 32 := 1024#32
  let v117 : BitVec 32 := Scalar.muli v115 c1024_i32_109
  let c512_i32_110 : BitVec 32 := 512#32
  let v118 : BitVec 32 := Scalar.addi v117 c512_i32_110
  let c0_i32_112 : BitVec 32 := 0#32
  ![v118.toNat, 0]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_149 : BitVec 32 := 1#32
  let v147 : BitVec 32 := Scalar.muli v4 c1_i32_149
  let v148 : BitVec 32 := Scalar.addi c0_i32_150 v147
  v148.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_179 : BitVec 32 := 1#32
  let v171 : BitVec 32 := Scalar.muli v7 c1_i32_179
  let v172 : BitVec 32 := Scalar.addi c0_i32_180 v171
  v172.toNat
def k0_dev9 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_219 : BitVec 32 := 1#32
  let v205 : BitVec 32 := Scalar.muli v4 c1_i32_219
  let v206 : BitVec 32 := Scalar.addi c0_i32_220 v205
  v206.toNat
def k0_dev10 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_249 : BitVec 32 := 1#32
  let v229 : BitVec 32 := Scalar.muli v7 c1_i32_249
  let v230 : BitVec 32 := Scalar.addi c0_i32_250 v229
  v230.toNat
def k0_dev11 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_302 : BitVec 32 := 1#32
  let v277 : BitVec 32 := Scalar.muli v4 c1_i32_302
  let v278 : BitVec 32 := Scalar.addi c0_i32_303 v277
  v278.toNat
def k0_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_332 : BitVec 32 := 1#32
  let v301 : BitVec 32 := Scalar.muli v7 c1_i32_332
  let v302 : BitVec 32 := Scalar.addi c0_i32_333 v301
  v302.toNat
def k0_dev13 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_372 : BitVec 32 := 1#32
  let v335 : BitVec 32 := Scalar.muli v4 c1_i32_372
  let v336 : BitVec 32 := Scalar.addi c0_i32_373 v335
  v336.toNat
def k0_dev14 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_402 : BitVec 32 := 1#32
  let v359 : BitVec 32 := Scalar.muli v7 c1_i32_402
  let v360 : BitVec 32 := Scalar.addi c0_i32_403 v359
  v360.toNat
def k0_dev15 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_454 : BitVec 32 := 1#32
  let v407 : BitVec 32 := Scalar.muli v4 c1_i32_454
  let v408 : BitVec 32 := Scalar.addi c0_i32_455 v407
  v408.toNat
def k0_dev16 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_484 : BitVec 32 := 1#32
  let v431 : BitVec 32 := Scalar.muli v7 c1_i32_484
  let v432 : BitVec 32 := Scalar.addi c0_i32_485 v431
  v432.toNat
def k0_dev17 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_524 : BitVec 32 := 1#32
  let v465 : BitVec 32 := Scalar.muli v4 c1_i32_524
  let v466 : BitVec 32 := Scalar.addi c0_i32_525 v465
  v466.toNat
def k0_dev18 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_554 : BitVec 32 := 1#32
  let v489 : BitVec 32 := Scalar.muli v7 c1_i32_554
  let v490 : BitVec 32 := Scalar.addi c0_i32_555 v489
  v490.toNat
def k0_dev19 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_606 : BitVec 32 := 1#32
  let v537 : BitVec 32 := Scalar.muli v4 c1_i32_606
  let v538 : BitVec 32 := Scalar.addi c0_i32_607 v537
  v538.toNat
def k0_dev20 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_636 : BitVec 32 := 1#32
  let v561 : BitVec 32 := Scalar.muli v7 c1_i32_636
  let v562 : BitVec 32 := Scalar.addi c0_i32_637 v561
  v562.toNat
def k0_dev21 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_676 : BitVec 32 := 1#32
  let v595 : BitVec 32 := Scalar.muli v4 c1_i32_676
  let v596 : BitVec 32 := Scalar.addi c0_i32_677 v595
  v596.toNat
def k0_dev22 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_706 : BitVec 32 := 1#32
  let v619 : BitVec 32 := Scalar.muli v7 c1_i32_706
  let v620 : BitVec 32 := Scalar.addi c0_i32_707 v619
  v620.toNat
def k0_dev23 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_758 : BitVec 32 := 1#32
  let v667 : BitVec 32 := Scalar.muli v4 c1_i32_758
  let v668 : BitVec 32 := Scalar.addi c0_i32_759 v667
  v668.toNat
def k0_dev24 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_788 : BitVec 32 := 1#32
  let v691 : BitVec 32 := Scalar.muli v7 c1_i32_788
  let v692 : BitVec 32 := Scalar.addi c0_i32_789 v691
  v692.toNat
def k0_dev25 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_828 : BitVec 32 := 1#32
  let v725 : BitVec 32 := Scalar.muli v4 c1_i32_828
  let v726 : BitVec 32 := Scalar.addi c0_i32_829 v725
  v726.toNat
def k0_dev26 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_858 : BitVec 32 := 1#32
  let v749 : BitVec 32 := Scalar.muli v7 c1_i32_858
  let v750 : BitVec 32 := Scalar.addi c0_i32_859 v749
  v750.toNat
def k0_dev27 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_910 : BitVec 32 := 1#32
  let v797 : BitVec 32 := Scalar.muli v4 c1_i32_910
  let v798 : BitVec 32 := Scalar.addi c0_i32_911 v797
  v798.toNat
def k0_dev28 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_940 : BitVec 32 := 1#32
  let v821 : BitVec 32 := Scalar.muli v7 c1_i32_940
  let v822 : BitVec 32 := Scalar.addi c0_i32_941 v821
  v822.toNat
def k0_dev29 (d0 : Dev nD) : Nat :=
  let c0_i32_981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_980 : BitVec 32 := 1#32
  let v855 : BitVec 32 := Scalar.muli v4 c1_i32_980
  let v856 : BitVec 32 := Scalar.addi c0_i32_981 v855
  v856.toNat
def k0_dev30 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1010 : BitVec 32 := 1#32
  let v879 : BitVec 32 := Scalar.muli v7 c1_i32_1010
  let v880 : BitVec 32 := Scalar.addi c0_i32_1011 v879
  v880.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1054 : BitVec 32 := 1024#32
  let v924 : BitVec 32 := Scalar.muli v2 c1024_i32_1054
  let v925 : Index := Scalar.indexCast v924
  let c0_1055 : Index := 0#32
  ![v925.toNat, 0]
def k0_off6 (d0 : Dev nD) (c0_i32_1057 : BitVec 32) (c0_i32_1062 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1056 : BitVec 32 := 8#32
  let v929 : BitVec 32 := Scalar.addi v2 c8_i32_1056
  let v930 : BitVec 32 := Scalar.subi v929 c0_i32_1057
  let c8_i32_1058 : BitVec 32 := 8#32
  let v931 : BitVec 32 := Scalar.remsi v930 c8_i32_1058
  let c1024_i32_1061 : BitVec 32 := 1024#32
  let v934 : BitVec 32 := Scalar.muli v931 c1024_i32_1061
  let v935 : BitVec 32 := Scalar.addi v934 c0_i32_1062
  let c0_i32_1069 : BitVec 32 := 0#32
  ![v935.toNat, 0]
def k0_dev31 (d0 : Dev nD) : Nat :=
  let c0_i32_1068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1067 : BitVec 32 := 1#32
  let v936 : BitVec 32 := Scalar.muli v4 c1_i32_1067
  let v937 : BitVec 32 := Scalar.addi c0_i32_1068 v936
  v937.toNat
def k0_off7 (d0 : Dev nD) (c512_i32_1087 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1086 : BitVec 32 := 1024#32
  let v955 : BitVec 32 := Scalar.muli v2 c1024_i32_1086
  let v956 : BitVec 32 := Scalar.addi v955 c512_i32_1087
  let v957 : Index := Scalar.indexCast v956
  let c0_1088 : Index := 0#32
  ![v957.toNat, 0]
def k0_off8 (d0 : Dev nD) (c0_i32_1089 : BitVec 32) (c0_i32_1096 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v961 : BitVec 32 := Scalar.addi v2 c0_i32_1089
  let c8_i32_1090 : BitVec 32 := 8#32
  let v962 : BitVec 32 := Scalar.remsi v961 c8_i32_1090
  let c1024_i32_1094 : BitVec 32 := 1024#32
  let v966 : BitVec 32 := Scalar.muli v962 c1024_i32_1094
  let c512_i32_1095 : BitVec 32 := 512#32
  let v967 : BitVec 32 := Scalar.addi v966 c512_i32_1095
  let v968 : BitVec 32 := Scalar.addi v967 c0_i32_1096
  let c0_i32_1103 : BitVec 32 := 0#32
  ![v968.toNat, 0]
def k0_dev32 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1101 : BitVec 32 := 1#32
  let v969 : BitVec 32 := Scalar.muli v7 c1_i32_1101
  let v970 : BitVec 32 := Scalar.addi c0_i32_1102 v969
  v970.toNat
def k0_dev33 (d0 : Dev nD) : Nat :=
  let c0_i32_1145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1144 : BitVec 32 := 1#32
  let v1011 : BitVec 32 := Scalar.muli v4 c1_i32_1144
  let v1012 : BitVec 32 := Scalar.addi c0_i32_1145 v1011
  v1012.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1163 : BitVec 32 := 1024#32
  let v1030 : BitVec 32 := Scalar.muli v2 c1024_i32_1163
  let c512_i32_1164 : BitVec 32 := 512#32
  let v1031 : BitVec 32 := Scalar.addi v1030 c512_i32_1164
  let c256_i32_1165 : BitVec 32 := 256#32
  let v1032 : BitVec 32 := Scalar.addi v1031 c256_i32_1165
  let v1033 : Index := Scalar.indexCast v1032
  let c0_1166 : Index := 0#32
  ![v1033.toNat, 0]
def k0_dev34 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1179 : BitVec 32 := 1#32
  let v1045 : BitVec 32 := Scalar.muli v7 c1_i32_1179
  let v1046 : BitVec 32 := Scalar.addi c0_i32_1180 v1045
  v1046.toNat
def k0_off10 (d0 : Dev nD) (c0_i32_1184 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1183 : BitVec 32 := 1024#32
  let v1053 : BitVec 32 := Scalar.muli v2 c1024_i32_1183
  let v1054 : BitVec 32 := Scalar.addi v1053 c0_i32_1184
  let v1055 : Index := Scalar.indexCast v1054
  let c0_1185 : Index := 0#32
  ![v1055.toNat, 0]
def k0_off11 (d0 : Dev nD) (c0_i32_1193 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1192 : BitVec 32 := 1024#32
  let v1062 : BitVec 32 := Scalar.muli v2 c1024_i32_1192
  let v1063 : BitVec 32 := Scalar.addi v1062 c0_i32_1193
  let c0_i32_1196 : BitVec 32 := 0#32
  ![v1063.toNat, 0]
def k0_dev35 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1241 : BitVec 32 := 1#32
  let v1105 : BitVec 32 := Scalar.muli v4 c1_i32_1241
  let v1106 : BitVec 32 := Scalar.addi c0_i32_1242 v1105
  v1106.toNat
def k0_off12 (d0 : Dev nD) (c0_i32_1217 : BitVec 32) (c0_i32_1252 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1215 : BitVec 32 := 16#32
  let v1085 : BitVec 32 := Scalar.addi v2 c16_i32_1215
  let c1_i32_1216 : BitVec 32 := 1#32
  let v1086 : BitVec 32 := Scalar.subi v1085 c1_i32_1216
  let v1087 : BitVec 32 := Scalar.subi v1086 c0_i32_1217
  let c8_i32_1218 : BitVec 32 := 8#32
  let v1088 : BitVec 32 := Scalar.remsi v1087 c8_i32_1218
  let c1024_i32_1250 : BitVec 32 := 1024#32
  let v1118 : BitVec 32 := Scalar.muli v1088 c1024_i32_1250
  let c0_i32_1251 : BitVec 32 := 0#32
  let v1119 : BitVec 32 := Scalar.addi v1118 c0_i32_1251
  let v1120 : BitVec 32 := Scalar.addi v1119 c0_i32_1252
  let v1121 : Index := Scalar.indexCast v1120
  let c0_1253 : Index := 0#32
  ![v1121.toNat, 0]
def k0_dev36 (d0 : Dev nD) : Nat :=
  let c0_i32_1281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1280 : BitVec 32 := 1#32
  let v1142 : BitVec 32 := Scalar.muli v7 c1_i32_1280
  let v1143 : BitVec 32 := Scalar.addi c0_i32_1281 v1142
  v1143.toNat
def k0_off13 (d0 : Dev nD) (c0_i32_1220 : BitVec 32) (c0_i32_1291 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1219 : BitVec 32 := 1#32
  let v1089 : BitVec 32 := Scalar.addi v2 c1_i32_1219
  let v1090 : BitVec 32 := Scalar.addi v1089 c0_i32_1220
  let c8_i32_1221 : BitVec 32 := 8#32
  let v1091 : BitVec 32 := Scalar.remsi v1090 c8_i32_1221
  let c1024_i32_1289 : BitVec 32 := 1024#32
  let v1155 : BitVec 32 := Scalar.muli v1091 c1024_i32_1289
  let c512_i32_1290 : BitVec 32 := 512#32
  let v1156 : BitVec 32 := Scalar.addi v1155 c512_i32_1290
  let v1157 : BitVec 32 := Scalar.addi v1156 c0_i32_1291
  let v1158 : Index := Scalar.indexCast v1157
  let c0_1292 : Index := 0#32
  ![v1158.toNat, 0]
def k0_dev37 (d0 : Dev nD) : Nat :=
  let c0_i32_1319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1318 : BitVec 32 := 1#32
  let v1178 : BitVec 32 := Scalar.muli v4 c1_i32_1318
  let v1179 : BitVec 32 := Scalar.addi c0_i32_1319 v1178
  v1179.toNat
def k0_off14 (d0 : Dev nD) (c0_i32_1217 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_1215 : BitVec 32 := 16#32
  let v1085 : BitVec 32 := Scalar.addi v2 c16_i32_1215
  let c1_i32_1216 : BitVec 32 := 1#32
  let v1086 : BitVec 32 := Scalar.subi v1085 c1_i32_1216
  let v1087 : BitVec 32 := Scalar.subi v1086 c0_i32_1217
  let c8_i32_1218 : BitVec 32 := 8#32
  let v1088 : BitVec 32 := Scalar.remsi v1087 c8_i32_1218
  let c1024_i32_1332 : BitVec 32 := 1024#32
  let v1196 : BitVec 32 := Scalar.muli v1088 c1024_i32_1332
  let c0_i32_1335 : BitVec 32 := 0#32
  ![v1196.toNat, 0]
def k0_dev38 (d0 : Dev nD) : Nat :=
  let c0_i32_1359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1358 : BitVec 32 := 1#32
  let v1216 : BitVec 32 := Scalar.muli v7 c1_i32_1358
  let v1217 : BitVec 32 := Scalar.addi c0_i32_1359 v1216
  v1217.toNat
def k0_off15 (d0 : Dev nD) (c0_i32_1220 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1219 : BitVec 32 := 1#32
  let v1089 : BitVec 32 := Scalar.addi v2 c1_i32_1219
  let v1090 : BitVec 32 := Scalar.addi v1089 c0_i32_1220
  let c8_i32_1221 : BitVec 32 := 8#32
  let v1091 : BitVec 32 := Scalar.remsi v1090 c8_i32_1221
  let c1024_i32_1372 : BitVec 32 := 1024#32
  let v1234 : BitVec 32 := Scalar.muli v1091 c1024_i32_1372
  let c512_i32_1373 : BitVec 32 := 512#32
  let v1235 : BitVec 32 := Scalar.addi v1234 c512_i32_1373
  let c0_i32_1376 : BitVec 32 := 0#32
  ![v1235.toNat, 0]
def k0_dev39 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1405 : BitVec 32 := 1#32
  let v1261 : BitVec 32 := Scalar.muli v4 c1_i32_1405
  let v1262 : BitVec 32 := Scalar.addi c0_i32_1406 v1261
  v1262.toNat
def k0_dev40 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1444 : BitVec 32 := 1#32
  let v1298 : BitVec 32 := Scalar.muli v7 c1_i32_1444
  let v1299 : BitVec 32 := Scalar.addi c0_i32_1445 v1298
  v1299.toNat
def k0_dev41 (d0 : Dev nD) : Nat :=
  let c0_i32_1483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1482 : BitVec 32 := 1#32
  let v1334 : BitVec 32 := Scalar.muli v4 c1_i32_1482
  let v1335 : BitVec 32 := Scalar.addi c0_i32_1483 v1334
  v1335.toNat
def k0_dev42 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1522 : BitVec 32 := 1#32
  let v1372 : BitVec 32 := Scalar.muli v7 c1_i32_1522
  let v1373 : BitVec 32 := Scalar.addi c0_i32_1523 v1372
  v1373.toNat
def k0_dev43 (d0 : Dev nD) : Nat :=
  let c0_i32_1570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1569 : BitVec 32 := 1#32
  let v1417 : BitVec 32 := Scalar.muli v4 c1_i32_1569
  let v1418 : BitVec 32 := Scalar.addi c0_i32_1570 v1417
  v1418.toNat
def k0_dev44 (d0 : Dev nD) : Nat :=
  let c0_i32_1609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1608 : BitVec 32 := 1#32
  let v1454 : BitVec 32 := Scalar.muli v7 c1_i32_1608
  let v1455 : BitVec 32 := Scalar.addi c0_i32_1609 v1454
  v1455.toNat
def k0_dev45 (d0 : Dev nD) : Nat :=
  let c0_i32_1647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1646 : BitVec 32 := 1#32
  let v1490 : BitVec 32 := Scalar.muli v4 c1_i32_1646
  let v1491 : BitVec 32 := Scalar.addi c0_i32_1647 v1490
  v1491.toNat
def k0_dev46 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1686 : BitVec 32 := 1#32
  let v1528 : BitVec 32 := Scalar.muli v7 c1_i32_1686
  let v1529 : BitVec 32 := Scalar.addi c0_i32_1687 v1528
  v1529.toNat
def k0_dev47 (d0 : Dev nD) : Nat :=
  let c0_i32_1734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1733 : BitVec 32 := 1#32
  let v1573 : BitVec 32 := Scalar.muli v4 c1_i32_1733
  let v1574 : BitVec 32 := Scalar.addi c0_i32_1734 v1573
  v1574.toNat
def k0_dev48 (d0 : Dev nD) : Nat :=
  let c0_i32_1773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1772 : BitVec 32 := 1#32
  let v1610 : BitVec 32 := Scalar.muli v7 c1_i32_1772
  let v1611 : BitVec 32 := Scalar.addi c0_i32_1773 v1610
  v1611.toNat
def k0_dev49 (d0 : Dev nD) : Nat :=
  let c0_i32_1811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1810 : BitVec 32 := 1#32
  let v1646 : BitVec 32 := Scalar.muli v4 c1_i32_1810
  let v1647 : BitVec 32 := Scalar.addi c0_i32_1811 v1646
  v1647.toNat
def k0_dev50 (d0 : Dev nD) : Nat :=
  let c0_i32_1851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1850 : BitVec 32 := 1#32
  let v1684 : BitVec 32 := Scalar.muli v7 c1_i32_1850
  let v1685 : BitVec 32 := Scalar.addi c0_i32_1851 v1684
  v1685.toNat
def k0_dev51 (d0 : Dev nD) : Nat :=
  let c0_i32_1898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1897 : BitVec 32 := 1#32
  let v1729 : BitVec 32 := Scalar.muli v4 c1_i32_1897
  let v1730 : BitVec 32 := Scalar.addi c0_i32_1898 v1729
  v1730.toNat
def k0_dev52 (d0 : Dev nD) : Nat :=
  let c0_i32_1937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1936 : BitVec 32 := 1#32
  let v1766 : BitVec 32 := Scalar.muli v7 c1_i32_1936
  let v1767 : BitVec 32 := Scalar.addi c0_i32_1937 v1766
  v1767.toNat
def k0_dev53 (d0 : Dev nD) : Nat :=
  let c0_i32_1975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1974 : BitVec 32 := 1#32
  let v1802 : BitVec 32 := Scalar.muli v4 c1_i32_1974
  let v1803 : BitVec 32 := Scalar.addi c0_i32_1975 v1802
  v1803.toNat
def k0_dev54 (d0 : Dev nD) : Nat :=
  let c0_i32_2015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2014 : BitVec 32 := 1#32
  let v1840 : BitVec 32 := Scalar.muli v7 c1_i32_2014
  let v1841 : BitVec 32 := Scalar.addi c0_i32_2015 v1840
  v1841.toNat
def k0_dev55 (d0 : Dev nD) : Nat :=
  let c0_i32_2062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2061 : BitVec 32 := 1#32
  let v1885 : BitVec 32 := Scalar.muli v4 c1_i32_2061
  let v1886 : BitVec 32 := Scalar.addi c0_i32_2062 v1885
  v1886.toNat
def k0_dev56 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2100 : BitVec 32 := 1#32
  let v1922 : BitVec 32 := Scalar.muli v7 c1_i32_2100
  let v1923 : BitVec 32 := Scalar.addi c0_i32_2101 v1922
  v1923.toNat
def k0_dev57 (d0 : Dev nD) : Nat :=
  let c0_i32_2139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2138 : BitVec 32 := 1#32
  let v1958 : BitVec 32 := Scalar.muli v4 c1_i32_2138
  let v1959 : BitVec 32 := Scalar.addi c0_i32_2139 v1958
  v1959.toNat
def k0_dev58 (d0 : Dev nD) : Nat :=
  let c0_i32_2179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2178 : BitVec 32 := 1#32
  let v1996 : BitVec 32 := Scalar.muli v7 c1_i32_2178
  let v1997 : BitVec 32 := Scalar.addi c0_i32_2179 v1996
  v1997.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S1024x4096, .f32⟩
  | .hbm, ⟨3, _⟩ => ⟨S8192x1024, .f32⟩
  | .hbm, ⟨4, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Program.lean ====
/- The kernel body, re-read as the steps the ring schedule consists of: a prologue, six reduce-scatter steps, a
   last reduce-scatter step that starts the all-gather, seven all-gather steps and the closing waits.  Each step is
   a function of its number, its direction (`false`: towards the right neighbour, `true`: towards the left one) and
   its quarter, and the printed body is the sequence of those steps by definition. -/
module

public import proofs.«01_k».proof.Proof.Gen.KernelIdeal.Skeleton
public import proofs.«01_k».proof.Proof.Gen.KernelIdeal.Points

@[expose] public section

noncomputable section

namespace Cert.KernelIdeal.Ringed

open Idealize.ShloMosaic Idealize.ShloMosaic.TcCoe Idealize.SL.Sem
open Cert.KernelIdeal.Gen

variable {F : FTy → Type} [FloatOps F]

/-- A program of one TensorCore. -/
abbrev Pg (F : FTy → Type) [FloatOps F] := Prog (TpuEff nD τ sig (Elt F) Λ₀ .tc)

/-! ## The buffers -/

abbrev xM : Memref sig .tc .hbm S8192x1024 .f32 := Memref.whole main_arg0
abbrev outM : Memref sig .tc .hbm S8192x512 .f32 := Memref.whole main_v1
abbrev ostM : Memref sig .tc .vmem S2x512x512 .f32 := Memref.whole cc0_scratch2
abbrev agM : Memref sig .tc .vmem S8192x1024 .bf16 := Memref.whole cc0_scratch5
abbrev w1M : Memref sig .tc .vmem S1024x1024 .bf16 := Memref.whole cc0_scratch6
abbrev w2M : Memref sig .tc .vmem S1024x512 .bf16 := Memref.whole cc0_scratch7
/-- The staging buffer of the activations' rows, one per direction. -/
def stM : Bool → Memref sig .tc .vmem S512x1024 .f32
  | false => Memref.whole cc0_scratch0
  | true => Memref.whole cc0_scratch1
/-- The reduce-scatter slots, one array per direction. -/
def rsM : Bool → Memref sig .tc .vmem S8x512x1024 .bf16
  | false => Memref.whole cc0_scratch3
  | true => Memref.whole cc0_scratch4

theorem stM_whole : ∀ d, (stM d).IsWhole | false => Memref.isWhole_whole _ | true => Memref.isWhole_whole _
theorem rsM_whole : ∀ d, (rsM d).IsWhole | false => Memref.isWhole_whole _ | true => Memref.isWhole_whole _

/-! ## The pieces -/

theorem rs_inb : ∀ (s : Fin 8) (q : Fin 2), ∀ a, (![s.val, 256 * q.val, 0] : Fin 3 → Nat) a + S1x256x1024.size a ≤ S8x512x1024.size a := by decide
/-- The rectangle of quarter `q` of slot `s`. -/
abbrev rsR (s : Fin 8) (q : Fin 2) : Rect S8x512x1024 := Rect.unit (s := S8x512x1024) ![s.val, 256 * q.val, 0] S1x256x1024.size (rs_inb s q)
theorem rsR_words : ∀ s q, (rsR s q).WholeWords (EltTy.packing .bf16) := by decide
theorem rsR_packed : ∀ s q, (rsR s q).PackedRows (EltTy.packing .bf16) := by decide
/-- Quarter `q` of slot `s`, as the copies name it. -/
def rsP (d : Bool) (s : Fin 8) (q : Fin 2) : Memref sig .tc .vmem S256x1024 .bf16 :=
  ((rsM d).slice (rsR s q) (fun _ => rfl)).squeeze S256x1024 squeezes_S1x256x1024_S256x1024
theorem rsP_exact (d : Bool) (s : Fin 8) (q : Fin 2) : (rsP d s q).view.WordExact :=
  ((rsM_whole d).wordExact_slice (by cases d <;> rfl) _ (rsR_words s q)).reshape _ _

theorem ost_inb : ∀ (d q : Fin 2), ∀ a, (![d.val, 256 * q.val, 0] : Fin 3 → Nat) a + S1x256x512.size a ≤ S2x512x512.size a := by decide
/-- Quarter `q` of the output staging slot of direction `d`. -/
abbrev ostR (d q : Fin 2) : Rect S2x512x512 := Rect.unit (s := S2x512x512) ![d.val, 256 * q.val, 0] S1x256x512.size (ost_inb d q)
theorem ostS_inb : ∀ (d : Fin 2), ∀ a, (![d.val, 0, 0] : Fin 3 → Nat) a + S1x512x512.size a ≤ S2x512x512.size a := by decide
/-- The output staging slot of direction `d`. -/
abbrev ostS (d : Fin 2) : Rect S2x512x512 := Rect.unit (s := S2x512x512) ![d.val, 0, 0] S1x512x512.size (ostS_inb d)
/-- The slot as the copies name it. -/
def ostP (d : Fin 2) : Memref sig .tc .vmem S512x512 .f32 :=
  (ostM.slice (ostS d) (fun _ => rfl)).squeeze S512x512 squeezes_S1x512x512_S512x512

/-- A direction as a slot number. -/
def bit : Bool → Fin 2 | false => 0 | true => 1

/-! ## The semaphores -/

/-- The semaphores of the copies: of phase `ph` (`false`: reduce-scatter, `true`: all-gather), direction `d`, and
    side `r` (`false`: the sender's, `true`: the receiver's). -/
def semA : Bool → Bool → Bool → DmaSems sig S7x2
  | false, false, false => cc0_scratch11
  | false, false, true => cc0_scratch12
  | false, true, false => cc0_scratch13
  | false, true, true => cc0_scratch14
  | true, false, false => cc0_scratch15
  | true, false, true => cc0_scratch16
  | true, true, false => cc0_scratch17
  | true, true, true => cc0_scratch18
theorem sem_inb : ∀ (s : Fin 7) (q : Fin 2), ∀ a, (![s.val, q.val] : Fin 2 → Nat) a + S1x1.size a ≤ S7x2.size a := by decide
/-- The semaphore of step `s`, quarter `q`. -/
def semO (ph d r : Bool) (s : Fin 7) (q : Fin 2) : DmaSem sig :=
  (((semA ph d r).slice (Rect.unit (s := S7x2) ![s.val, q.val] S1x1.size (sem_inb s q))).squeeze S_ squeezes_S1x1_S_).sem
/-- The semaphore of the loads of the activations' rows. -/
def ldS : Bool → DmaSem sig
  | false => cc0_scratch8.sem
  | true => cc0_scratch9.sem
theorem stS_inb : ∀ (d : Fin 2), ∀ a, (![d.val] : Fin 1 → Nat) a + S1.size a ≤ S2.size a := by decide
/-- The semaphore of the stores of the output's rows. -/
def stS (d : Fin 2) : DmaSem sig :=
  ((cc0_scratch10.slice (Rect.unit (s := S2) ![d.val] S1.size (stS_inb d))).squeeze S_ squeezes_S1_S_).sem

/-! ## Neighbours and offsets, as the kernel computes them -/

/-- The device a copy of direction `d` goes to. -/
def tgt (d : Bool) (c : Dev nD) : Dev nD :=
  match d with
  | false => ⟨k0_dev3 c, k0_dev3_lt c⟩
  | true => ⟨k0_dev4 c, k0_dev4_lt c⟩

/-- Where the rows of the activations begin that step `s` multiplies. -/
def xOff (c : Dev nD) (d : Bool) (s : Fin 7) : Fin 2 → Nat :=
  match d with
  | false => k0_off3 c (BitVec.ofNat 32 s.val)
  | true => k0_off4 c (BitVec.ofNat 32 s.val)
theorem xOff_inb (c : Dev nD) (d : Bool) (s : Fin 7) : ∀ a, xOff c d s a + S512x1024.size a ≤ S8192x1024.size a := by
  cases d
  · exact k0_off3_inb c s
  · exact k0_off4_inb c s
/-- Where the rows of the activations begin that the prologue multiplies. -/
def xOff0 (c : Dev nD) (d : Bool) : Fin 2 → Nat :=
  match d with
  | false => k0_off1 c
  | true => k0_off2 c
theorem xOff0_inb (c : Dev nD) (d : Bool) : ∀ a, xOff0 c d a + S512x1024.size a ≤ S8192x1024.size a := by
  cases d
  · exact k0_off1_inb c
  · exact k0_off2_inb c

/-- Where the rows of the gathered product begin that all-gather step `t` passes on. -/
def agOff (c : Dev nD) (d : Bool) (t : Fin 7) (q : Fin 2) : Fin 2 → Nat :=
  match d with
  | false => k0_off6 c (BitVec.ofNat 32 t.val) (BitVec.ofNat 32 (256 * q.val))
  | true => k0_off8 c (BitVec.ofNat 32 t.val) (BitVec.ofNat 32 (256 * q.val))
theorem agOff_inb (c : Dev nD) (d : Bool) (t : Fin 7) (q : Fin 2) : ∀ a, agOff c d t q a + S256x1024.size a ≤ S8192x1024.size a := by
  cases d
  · exact k0_off6_inb c t q
  · exact k0_off8_inb c t q
/-- Those rows, as the copies name them. -/
def agO (c : Dev nD) (d : Bool) (t : Fin 7) (q : Fin 2) : Memref sig .tc .vmem S256x1024 .bf16 :=
  agM.slice (Rect.unit (s := S8192x1024) (agOff c d t q) S256x1024.size (agOff_inb c d t q)) (fun _ => rfl)
theorem agO_exact (c : Dev nD) (d : Bool) (t : Fin 7) (q : Fin 2) : (agO c d t q).view.WordExact := by
  cases d
  · exact (Memref.isWhole_whole cc0_scratch5).wordExact_slice rfl _ (k0_off6_wordsbf16 c t q)
  · exact (Memref.isWhole_whole cc0_scratch5).wordExact_slice rfl _ (k0_off8_wordsbf16 c t q)

/-- Where the rows of the gathered product begin that step `t` multiplies. -/
def rdOff (c : Dev nD) (d : Bool) (t : Fin 7) (q : Fin 2) : Fin 2 → Nat :=
  match d with
  | false => k0_off12 c (BitVec.ofNat 32 t.val) (BitVec.ofNat 32 (256 * q.val))
  | true => k0_off13 c (BitVec.ofNat 32 t.val) (BitVec.ofNat 32 (256 * q.val))
theorem rdOff_inb (c : Dev nD) (d : Bool) (t : Fin 7) (q : Fin 2) : ∀ a, rdOff c d t q a + S256x1024.size a ≤ S8192x1024.size a := by
  cases d
  · exact k0_off12_inb c t q
  · exact k0_off13_inb c t q

/-- Where the rows of its own chunk begin that a device stores after the last reduce-scatter step. -/
def ownOff (c : Dev nD) (d : Bool) (q : Fin 2) : Fin 2 → Nat :=
  match d, q with
  | false, 0 => k0_off5 c
  | true, 0 => k0_off7 c 512#32
  | false, 1 => k0_off7 c 256#32
  | true, 1 => k0_off9 c
theorem ownOff_inb (c : Dev nD) (d : Bool) (q : Fin 2) : ∀ a, ownOff c d q a + S256x1024.size a ≤ S8192x1024.size a := by
  revert q d
  rintro (_ | _) q
  · fin_cases q
    · exact k0_off5_inb c
    · exact k0_off7_inb c 0
  · fin_cases q
    · exact k0_off7_inb c 1
    · exact k0_off9_inb c
abbrev ownR (c : Dev nD) (d : Bool) (q : Fin 2) : Rect S8192x1024 :=
  Rect.unit (s := S8192x1024) (ownOff c d q) S256x1024.size (ownOff_inb c d q)
theorem ownR_packed (c : Dev nD) (d : Bool) (q : Fin 2) : (ownR c d q).PackedRows (EltTy.packing .bf16) := by
  revert q d
  rintro (_ | _) q
  · fin_cases q
    · exact k0_off5_packedbf16 c
    · exact k0_off7_packedbf16 c 0
  · fin_cases q
    · exact k0_off7_packedbf16 c 1
    · exact k0_off9_packedbf16 c
/-- Where half of its own chunk begins. -/
def halfOff (c : Dev nD) (d : Bool) : Fin 2 → Nat :=
  match d with
  | false => k0_off10 c 0#32
  | true => k0_off10 c 512#32
theorem halfOff_inb (c : Dev nD) (d : Bool) : ∀ a, halfOff c d a + S512x1024.size a ≤ S8192x1024.size a := by
  cases d
  · exact k0_off10_inb c 0
  · exact k0_off10_inb c 1

/-- Where the rows of the result begin that come from the device's own chunk. -/
def outOff0 (c : Dev nD) (d : Bool) : Fin 2 → Nat :=
  match d with
  | false => k0_off11 c 0#32
  | true => k0_off11 c 512#32
theorem outOff0_inb (c : Dev nD) (d : Bool) : ∀ a, outOff0 c d a + S512x512.size a ≤ S8192x512.size a := by
  cases d
  · exact k0_off11_inb c 0
  · exact k0_off11_inb c 1
/-- Where the rows of the result begin that all-gather step `t` brings. -/
def outOff (c : Dev nD) (d : Bool) (t : Fin 7) : Fin 2 → Nat :=
  match d with
  | false => k0_off14 c (BitVec.ofNat 32 t.val)
  | true => k0_off15 c (BitVec.ofNat 32 t.val)
theorem outOff_inb (c : Dev nD) (d : Bool) (t : Fin 7) : ∀ a, outOff c d t a + S512x512.size a ≤ S8192x512.size a := by
  cases d
  · exact k0_off14_inb c t
  · exact k0_off15_inb c t
/-- The rows of the result beginning at `o`. -/
abbrev outP (o : Fin 2 → Nat) (h : ∀ a, o a + S512x512.size a ≤ S8192x512.size a) : Memref sig .tc .hbm S512x512 .f32 :=
  outM.slice (Rect.unit (s := S8192x512) o S512x512.size h) (fun _ => rfl)
/-- The rows of the activations beginning at `o`. -/
abbrev xP (o : Fin 2 → Nat) (h : ∀ a, o a + S512x1024.size a ≤ S8192x1024.size a) : Memref sig .tc .hbm S512x1024 .f32 :=
  xM.slice (Rect.unit (s := S8192x1024) o S512x1024.size h) (fun _ => rfl)
theorem ostP_exact (d : Fin 2) : (ostP d).view.WordExact := (View.wordExact_bits rfl).reshape _ _

/-! ## The operations -/

/-- A remote copy within VMEM. -/
abbrev sendP (c : Dev nD) (d : Bool) (src dst : Memref sig .tc .vmem S256x1024 .bf16) (ss rs : DmaSem sig)
    (hs : src.view.WordExact) (hd : dst.view.WordExact) : Pg F PUnit :=
  Prog.lift (.enqueueDma src (.remote (Dev.tc (tgt d c)) dst (.dma ss)) (.dma rs) hs hd ⟨⟨rfl, Or.inl rfl⟩, trivial⟩)
/-- The wait on a quarter's semaphore. -/
abbrev waitP (sm : DmaSem sig) (a b : Memref sig .tc .vmem S256x1024 .bf16) (ha : a.view.WordExact) (hb : b.view.WordExact) : Pg F PUnit :=
  Prog.lift (.waitDma2 sm a b ha hb)

/-- The load of the rows of the activations beginning at `o`. -/
abbrev ldX (d : Bool) (o : Fin 2 → Nat) (h : ∀ a, o a + S512x1024.size a ≤ S8192x1024.size a) : Pg F PUnit :=
  Prog.lift (.enqueueDma (xP o h) (.here (stM d)) (.dma (ldS d)) (View.wordExact_bits rfl) (stM_whole d).wordExact ⟨Or.inl rfl, trivial⟩)
abbrev wtX (d : Bool) (o : Fin 2 → Nat) (h : ∀ a, o a + S512x1024.size a ≤ S8192x1024.size a) : Pg F PUnit :=
  Prog.lift (.waitDma2 (ldS d) (xP o h) (stM d) (View.wordExact_bits rfl) (stM_whole d).wordExact)
/-- The store of an output staging slot to the rows of the result beginning at `o`. -/
abbrev stO (d : Bool) (o : Fin 2 → Nat) (h : ∀ a, o a + S512x512.size a ≤ S8192x512.size a) : Pg F PUnit :=
  Prog.lift (.enqueueDma (ostP (bit d)) (.here (outP o h)) (.dma (stS (bit d))) (ostP_exact _) (View.wordExact_bits rfl) ⟨Or.inl rfl, trivial⟩)
abbrev wtO (d : Bool) (o : Fin 2 → Nat) (h : ∀ a, o a + S512x512.size a ≤ S8192x512.size a) : Pg F PUnit :=
  Prog.lift (.waitDma2 (stS (bit d)) (ostP (bit d)) (outP o h) (ostP_exact _) (View.wordExact_bits rfl))

/-! ## Hops: the remote copies -/

/-- A remote copy of the schedule: its phase (`false`: reduce-scatter, `true`: all-gather), step, quarter and direction. -/
structure Hop where
  ph : Bool
  s : Fin 7
  q : Fin 2
  d : Bool
deriving DecidableEq

/-- The reduce-scatter slot step `s` sends from, and the one it arrives in. -/
def slotA (s : Fin 7) : Fin 8 := ⟨(s.val + 7) % 8, Nat.mod_lt _ (by decide)⟩
def slotB (s : Fin 7) : Fin 8 := s.castSucc

/-- Where a hop reads and where it lands. -/
def hopSrc (c : Dev nD) (h : Hop) : Memref sig .tc .vmem S256x1024 .bf16 :=
  match h.ph with
  | false => rsP h.d (slotA h.s) h.q
  | true => agO c h.d h.s h.q
def hopDst (c : Dev nD) (h : Hop) : Memref sig .tc .vmem S256x1024 .bf16 :=
  match h.ph with
  | false => rsP h.d (slotB h.s) h.q
  | true => agO c h.d h.s h.q
theorem hopSrc_exact (c : Dev nD) : ∀ h : Hop, (hopSrc c h).view.WordExact
  | ⟨false, s, q, d⟩ => rsP_exact d (slotA s) q
  | ⟨true, s, q, d⟩ => agO_exact c d s q
theorem hopDst_exact (c : Dev nD) : ∀ h : Hop, (hopDst c h).view.WordExact
  | ⟨false, s, q, d⟩ => rsP_exact d (slotB s) q
  | ⟨true, s, q, d⟩ => agO_exact c d s q
/-- The sender's and the receiver's semaphore of a hop. -/
abbrev sndS (h : Hop) : DmaSem sig := semO h.ph h.d false h.s h.q
abbrev rcvS (h : Hop) : DmaSem sig := semO h.ph h.d true h.s h.q

/-- The start of a hop, the wait for its landing, and the wait for its end at the sender. -/
abbrev sendH (c : Dev nD) (h : Hop) : Pg F PUnit := sendP c h.d (hopSrc c h) (hopDst c h) (sndS h) (rcvS h) (hopSrc_exact c h) (hopDst_exact c h)
abbrev waitR (c : Dev nD) (h : Hop) : Pg F PUnit := waitP (rcvS h) (hopSrc c h) (hopDst c h) (hopSrc_exact c h) (hopDst_exact c h)
abbrev waitS (c : Dev nD) (h : Hop) : Pg F PUnit := waitP (sndS h) (hopDst c h) (hopSrc c h) (hopDst_exact c h) (hopSrc_exact c h)

/-! ## The steps -/

theorem st_inb : ∀ (q : Fin 2), ∀ a, (![256 * q.val, 0] : Fin 2 → Nat) a + S256x1024.size a ≤ S512x1024.size a := by decide
/-- Quarter `q` of a staging buffer. -/
abbrev stR (q : Fin 2) : Rect S512x1024 := Rect.unit (s := S512x1024) ![256 * q.val, 0] S256x1024.size (st_inb q)
abbrev w1R : Rect S1024x1024 := Rect.unit (s := S1024x1024) ![0, 0] S1024x1024.size inb_S1024x1024_S1024x1024_0_0
abbrev w2R : Rect S1024x512 := Rect.unit (s := S1024x512) ![0, 0] S1024x512.size inb_S1024x512_S1024x512_0_0

/-- The product of quarter `q` of a staging buffer with the first weights. -/
def dotQ (d : Bool) (q : Fin 2) : Pg F (FVec F S256x1024 .bf16) := do
  let a : Vec F S256x1024 .f32 ← Prog.lift (.load (stM d) (stR q).toLoadRect (View.loadsAt_vmem h_S256x1024))
  let w : Vec F S1024x1024 .bf16 ← Prog.lift (.load w1M w1R.toLoadRect (View.loadsAt_vmem h_S1024x1024))
  pure (k0_pay7 a w)

/-- The store into quarter `q` of slot `s`. -/
def putRs (d : Bool) (s : Fin 8) (q : Fin 2) (v : FVec F S1x256x1024 .bf16) : Pg F PUnit := do
  let _ : Vec F S1x256x1024 .bf16 ← Prog.lift (.load (rsM d) (rsR s q).toLoadRect (View.loadsAt_vmem h_S1x256x1024))
  Prog.lift (.store (rsM d) (rsR s q) v Finset.univ
    (View.stores_vmem h_S1x256x1024 ((rsM_whole d).storeExact_slice (by cases d <;> rfl) _ (rsR_packed s q)) (fun _ => rfl)) (.inl rfl))

/-- The first product of the prologue put into slot 7 and sent. -/
def first (c : Dev nD) (q : Fin 2) (d : Bool) : Pg F PUnit := do
  let v ← dotQ d q
  putRs d 7 q (shapeCast S1x256x1024 v shapeCasts_S256x1024_S1x256x1024)
  sendH c ⟨false, 0, q, d⟩

/-- The prologue. -/
def prologue (a1 : Memref sig .tc .vmem S1024x1024 .f32) (a2 : Memref sig .tc .vmem S1024x512 .f32) (c : Dev nD) : Pg F PUnit := do
  ldX false (xOff0 c false) (xOff0_inb c false)
  ldX true (xOff0 c true) (xOff0_inb c true)
  let v : Vec F S1024x1024 .f32 ← Prog.lift (.load a1 w1R.toLoadRect (View.loadsAt_vmem h_S1024x1024))
  let _ : Vec F S1024x1024 .bf16 ← Prog.lift (.load w1M w1R.toLoadRect (View.loadsAt_vmem h_S1024x1024))
  Prog.lift (.store w1M w1R (k0_pay1 v) Finset.univ
    (View.stores_vmem h_S1024x1024 ((Memref.isWhole_whole cc0_scratch6).storeExact_slice rfl _ packedbf16_S1024x1024_S1024x1024_0_0) (fun _ => rfl)) (.inl rfl))
  let w : Vec F S1024x512 .f32 ← Prog.lift (.load a2 w2R.toLoadRect (View.loadsAt_vmem h_S1024x512))
  let _ : Vec F S1024x512 .bf16 ← Prog.lift (.load w2M w2R.toLoadRect (View.loadsAt_vmem h_S1024x512))
  Prog.lift (.store w2M w2R (k0_pay2 w) Finset.univ
    (View.stores_vmem h_S1024x512 ((Memref.isWhole_whole cc0_scratch7).storeExact_slice rfl _ packedbf16_S1024x512_S1024x512_0_0) (fun _ => rfl)) (.inl rfl))
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32
  wtX false (xOff0 c false) (xOff0_inb c false)
  first c 0 false
  wtX true (xOff0 c true) (xOff0_inb c true)
  first c 0 true
  first c 1 false
  first c 1 true

/-- A quarter of reduce-scatter step `s`: what has arrived plus the device's own part, stored and sent on. -/
def accRs (c : Dev nD) (s : Fin 6) (q : Fin 2) (d : Bool) (v : FVec F S256x1024 .bf16) : Pg F PUnit := do
  waitR c ⟨false, s.castSucc, q, d⟩
  let l : Vec F S1x256x1024 .bf16 ← Prog.lift (.load (rsM d) (rsR (slotB s.castSucc) q).toLoadRect (View.loadsAt_vmem h_S1x256x1024))
  putRs d (slotB s.castSucc) q (k0_pay9 v l)
  sendH c ⟨false, s.succ, q, d⟩

/-- Reduce-scatter step `s`, but the last. -/
def rsStep (c : Dev nD) (s : Fin 6) : Pg F PUnit := do
  ldX false (xOff c false s.castSucc) (xOff_inb c false s.castSucc)
  ldX true (xOff c true s.castSucc) (xOff_inb c true s.castSucc)
  wtX false (xOff c false s.castSucc) (xOff_inb c false s.castSucc)
  let v ← dotQ false 0
  wtX true (xOff c true s.castSucc) (xOff_inb c true s.castSucc)
  let w ← dotQ true 0
  accRs c s 0 false v
  accRs c s 0 true w
  let v ← dotQ false 1
  let w ← dotQ true 1
  accRs c s 1 false v
  accRs c s 1 true w

/-- A quarter of the last reduce-scatter step: the finished rows go into the gathered product and start round the ring. -/
def accLast (c : Dev nD) (q : Fin 2) (d : Bool) (v : FVec F S256x1024 .bf16) : Pg F PUnit := do
  waitR c ⟨false, 6, q, d⟩
  let l : Vec F S1x256x1024 .bf16 ← Prog.lift (.load (rsM d) (rsR (slotB 6) q).toLoadRect (View.loadsAt_vmem h_S1x256x1024))
  let _ : Vec F S256x1024 .bf16 ← Prog.lift (.load agM (ownR c d q).toLoadRect (View.loadsAt_vmem h_S256x1024))
  Prog.lift (.store agM (ownR c d q) (k0_pay57 v l) Finset.univ
    (View.stores_vmem h_S256x1024 ((Memref.isWhole_whole cc0_scratch5).storeExact_slice rfl _ (ownR_packed c d q)) (fun _ => rfl)) (.inl rfl))
  sendH c ⟨true, 0, q, d⟩

/-- The last reduce-scatter step. -/
def lastStep (c : Dev nD) : Pg F PUnit := do
  ldX false (xOff c false 6) (xOff_inb c false 6)
  ldX true (xOff c true 6) (xOff_inb c true 6)
  wtX false (xOff c false 6) (xOff_inb c false 6)
  let v ← dotQ false 0
  wtX true (xOff c true 6) (xOff_inb c true 6)
  let w ← dotQ true 0
  accLast c 0 false v
  accLast c 0 true w
  let v ← dotQ false 1
  let w ← dotQ true 1
  accLast c 1 false v
  accLast c 1 true w

/-- Where the rows of the result begin that direction `d` stores at its `k`-th store. -/
def outC (c : Dev nD) (d : Bool) (k : Fin 8) : Fin 2 → Nat := Fin.cases (outOff0 c d) (outOff c d) k
theorem outC_inb (c : Dev nD) (d : Bool) (k : Fin 8) : ∀ a, outC c d k a + S512x512.size a ≤ S8192x512.size a := by
  induction k using Fin.cases
  · exact outOff0_inb c d
  · exact outOff_inb c d _

/-- A half of the device's own rows of the result. -/
def halfStep (c : Dev nD) (d : Bool) : Pg F PUnit := do
  let a : Vec F S512x1024 .bf16 ← Prog.lift (.load agM (Rect.unit (s := S8192x1024) (halfOff c d) S512x1024.size (halfOff_inb c d)).toLoadRect (View.loadsAt_vmem h_S512x1024))
  let w : Vec F S1024x512 .bf16 ← Prog.lift (.load w2M w2R.toLoadRect (View.loadsAt_vmem h_S1024x512))
  let _ : Vec F S1x512x512 .f32 ← Prog.lift (.load ostM (ostS (bit d)).toLoadRect (View.loadsAt_vmem h_S1x512x512))
  Prog.lift (.store ostM (ostS (bit d)) (k0_pay63 a w) Finset.univ (View.stores_vmem_bits_univ h_S1x512x512 rfl) (.inl rfl))
  stO d (outC c d 0) (outC_inb c d 0)

/-- A quarter's rows of the result, put into the staging slot. -/
def dotO (c : Dev nD) (t : Fin 7) (q : Fin 2) (d : Bool) : Pg F PUnit := do
  let a : Vec F S256x1024 .bf16 ← Prog.lift (.load agM (Rect.unit (s := S8192x1024) (rdOff c d t q) S256x1024.size (rdOff_inb c d t q)).toLoadRect (View.loadsAt_vmem h_S256x1024))
  let w : Vec F S1024x512 .bf16 ← Prog.lift (.load w2M w2R.toLoadRect (View.loadsAt_vmem h_S1024x512))
  let _ : Vec F S1x256x512 .f32 ← Prog.lift (.load ostM (ostR (bit d) q).toLoadRect (View.loadsAt_vmem h_S1x256x512))
  Prog.lift (.store ostM (ostR (bit d) q) (k0_pay65 a w) Finset.univ (View.stores_vmem_bits_univ h_S1x256x512 rfl) (.inl rfl))

/-- All-gather step `t`, but the last, of the first quarter: what has arrived goes on, the staging slot is waited for. -/
def agA (c : Dev nD) (t : Fin 6) (d : Bool) : Pg F PUnit := do
  waitR c ⟨true, t.castSucc, 0, d⟩
  sendH c ⟨true, t.succ, 0, d⟩
  wtO d (outC c d t.castSucc.castSucc) (outC_inb c d _)
  dotO c t.castSucc 0 d
/-- The same of the second quarter: the staging slot is stored. -/
def agB (c : Dev nD) (t : Fin 6) (d : Bool) : Pg F PUnit := do
  waitR c ⟨true, t.castSucc, 1, d⟩
  sendH c ⟨true, t.succ, 1, d⟩
  dotO c t.castSucc 1 d
  stO d (outC c d t.castSucc.succ) (outC_inb c d _)
/-- The last all-gather step sends nothing on. -/
def agA' (c : Dev nD) (d : Bool) : Pg F PUnit := do
  waitR c ⟨true, 6, 0, d⟩
  wtO d (outC c d (6 : Fin 7).castSucc) (outC_inb c d _)
  dotO c 6 0 d
def agB' (c : Dev nD) (d : Bool) : Pg F PUnit := do
  waitR c ⟨true, 6, 1, d⟩
  dotO c 6 1 d
  stO d (outC c d (6 : Fin 7).succ) (outC_inb c d _)

def agStep (c : Dev nD) (t : Fin 6) : Pg F PUnit := do
  agA c t false
  agA c t true
  agB c t false
  agB c t true
def agStep' (c : Dev nD) : Pg F PUnit := do
  agA' c false
  agA' c true
  agB' c false
  agB' c true

/-- The waits for the end of the copies of step `s` of a phase. -/
def waitsS (c : Dev nD) (ph : Bool) (s : Fin 7) : Pg F PUnit := do
  waitS c ⟨ph, s, 0, false⟩
  waitS c ⟨ph, s, 0, true⟩
  waitS c ⟨ph, s, 1, false⟩
  waitS c ⟨ph, s, 1, true⟩

/-- A step for each number, in order. -/
def steps : (n : Nat) → (Fin n → Pg F PUnit) → Pg F PUnit
  | 0, _ => pure ⟨⟩
  | n + 1, f => do
    f 0
    steps n fun i => f i.succ

/-- The kernel's body. -/
def ring (a1 : Memref sig .tc .vmem S1024x1024 .f32) (a2 : Memref sig .tc .vmem S1024x512 .f32) (c : Dev nD) : Pg F PUnit := do
  prologue a1 a2 c
  steps 6 (rsStep c)
  lastStep c
  halfStep c false
  halfStep c true
  steps 6 (agStep c)
  agStep' c
  wtO false (outC c false 7) (outC_inb c false 7)
  wtO true (outC c true 7) (outC_inb c true 7)
  steps 7 (waitsS c false)
  steps 7 (waitsS c true)

end Cert.KernelIdeal.Ringed
-- ==== Proof.Places.lean ====
/- Where the ring's copies go: the neighbours, the numbering of the copies, and the rows of the three large buffers in
   closed form (chunk, direction, quarter). -/
module

public import proofs.«01_k».proof.Proof.Program

@[expose] public section

noncomputable section

namespace Cert.KernelIdeal.Ringed

open Idealize.ShloMosaic Idealize.ShloMosaic.TcCoe Idealize.SL.Sem
open Cert.KernelIdeal.Gen

/-! ## Neighbours -/

/-- The device a copy of direction `d` comes from. -/
def frm (d : Bool) (c : Dev nD) : Dev nD := tgt (!d) c

theorem tgt_frm : ∀ (d : Bool) (c : Dev nD), tgt d (frm d c) = c := by decide +kernel
theorem frm_tgt : ∀ (d : Bool) (c : Dev nD), frm d (tgt d c) = c := by decide +kernel
theorem dev1_tgt : ∀ c : Dev nD, (⟨k0_dev1 c, k0_dev1_lt c⟩ : Dev nD) = tgt true c := by decide +kernel
theorem dev2_tgt : ∀ c : Dev nD, (⟨k0_dev2 c, k0_dev2_lt c⟩ : Dev nD) = tgt false c := by decide +kernel
theorem frm_true : ∀ c : Dev nD, frm true c = tgt false c := by decide +kernel
theorem frm_false : ∀ c : Dev nD, frm false c = tgt true c := by decide +kernel
/-- The devices, one step along a direction. -/
def along (d : Bool) : Dev nD ≃ Dev nD := ⟨tgt d, frm d, frm_tgt d, tgt_frm d⟩

/-- The chunk that lies `t` steps behind device `c` in direction `d`. -/
def bk (d : Bool) (t : Nat) (c : Dev nD) : Fin 8 := ⟨(c.val + (if d then t else 7 * t)) % 8, Nat.mod_lt _ (by decide)⟩

theorem tgt_val : ∀ (d : Bool) (c : Dev nD), (tgt d c).val = (c.val + if d then 7 else 1) % 8 := by decide +kernel
theorem frm_val : ∀ (d : Bool) (c : Dev nD), (frm d c).val = (c.val + if d then 1 else 7) % 8 := by decide +kernel
theorem bk_succ (d : Bool) (t : Nat) (c : Dev nD) : bk d (t + 1) c = bk d t (frm d c) := by
  refine Fin.ext ?_
  simp only [bk, frm_val]
  cases d <;> simp <;> omega
theorem bk_zero (d : Bool) (c : Dev nD) : (bk d 0 c).val = c.val := by
  have : c.val < 8 := c.isLt
  simp only [bk]
  cases d <;> simp <;> omega
theorem bk_eight (d : Bool) (c : Dev nD) : bk d 8 c = bk d 0 c := by
  refine Fin.ext ?_
  simp only [bk]
  cases d <;> simp <;> omega

/-! ## The numbering of the hops -/

/-- A hop as a tuple. -/
def Hop.equiv : Bool × Fin 7 × Fin 2 × Bool ≃ Hop :=
  ⟨fun p => ⟨p.1, p.2.1, p.2.2.1, p.2.2.2⟩, fun h => (h.ph, h.s, h.q, h.d), fun _ => rfl, fun _ => rfl⟩
instance : Fintype Hop := Fintype.ofEquiv _ Hop.equiv
def bitN : Bool → Nat | false => 0 | true => 1
theorem bitN_le (b : Bool) : bitN b ≤ 1 := by cases b <;> decide
/-- The place of a hop in the order in which they start, land and are waited for. -/
def num (h : Hop) : Nat := ((bitN h.ph * 7 + h.s.val) * 2 + h.q.val) * 2 + bitN h.d
theorem num_lt (h : Hop) : num h < 56 := by
  have := bitN_le h.ph; have := bitN_le h.d; have := h.s.isLt; have := h.q.isLt
  unfold num; omega
theorem bitN_inj {a b : Bool} (h : bitN a = bitN b) : a = b := by revert h; cases a <;> cases b <;> decide
theorem num_inj {a b : Hop} (h : num a = num b) : a = b := by
  obtain ⟨p, s, q, d⟩ := a; obtain ⟨p', s', q', d'⟩ := b
  have := bitN_le p; have := bitN_le d; have := s.isLt; have := q.isLt
  have := bitN_le p'; have := bitN_le d'; have := s'.isLt; have := q'.isLt
  simp only [num] at h
  have h1 := bitN_inj (a := d) (b := d') (by omega)
  have h2 : q = q' := Fin.ext (by omega)
  have h3 := bitN_inj (a := p) (b := p') (by omega)
  have h4 : s = s' := Fin.ext (by omega)
  subst h1 h2 h3 h4; rfl

/-! ## Rows -/

/-- Where the half of chunk `k` begins that direction `d` carries. -/
def rowOff (k : Fin 8) (d : Bool) : Fin 2 → Nat := ![1024 * k.val + 512 * bitN d, 0]
/-- Where quarter `q` of that half begins. -/
def qOff (k : Fin 8) (d : Bool) (q : Fin 2) : Fin 2 → Nat := ![1024 * k.val + 512 * bitN d + 256 * q.val, 0]
theorem rowX_inb : ∀ k d, ∀ a, rowOff k d a + S512x1024.size a ≤ S8192x1024.size a := by decide +kernel
theorem rowO_inb : ∀ k d, ∀ a, rowOff k d a + S512x512.size a ≤ S8192x512.size a := by decide +kernel
theorem qOff_inb : ∀ k d q, ∀ a, qOff k d q a + S256x1024.size a ≤ S8192x1024.size a := by decide +kernel

theorem xOff_eq : ∀ (c : Dev nD) d (s : Fin 7), xOff c d s = rowOff (bk d (s.val + 2) c) d := by decide +kernel
theorem xOff0_eq : ∀ (c : Dev nD) d, xOff0 c d = rowOff (bk d 1 c) d := by decide +kernel
theorem agOff_eq : ∀ (c : Dev nD) d (t : Fin 7) q, agOff c d t q = qOff (bk d t.val c) d q := by decide +kernel
theorem rdOff_eq : ∀ (c : Dev nD) d (t : Fin 7) q, rdOff c d t q = qOff (bk d (t.val + 1) c) d q := by decide +kernel
theorem ownOff_eq : ∀ (c : Dev nD) d q, ownOff c d q = qOff (bk d 0 c) d q := by decide +kernel
theorem halfOff_eq : ∀ (c : Dev nD) d, halfOff c d = rowOff (bk d 0 c) d := by decide +kernel
theorem outC_eq : ∀ (c : Dev nD) d (k : Fin 8), outC c d k = rowOff (bk d k.val c) d := by
  intro c d k
  induction k using Fin.cases with
  | zero => exact (by decide +kernel : ∀ (c : Dev nD) d, outOff0 c d = rowOff (bk d 0 c) d) c d
  | succ t => exact (by decide +kernel : ∀ (c : Dev nD) d (t : Fin 7), outOff c d t = rowOff (bk d t.succ.val c) d) c d t

/-- Quarter `q` of the half of chunk `k` of the gathered product that direction `d` carries. -/
abbrev agR (k : Fin 8) (d : Bool) (q : Fin 2) : Rect S8192x1024 := Rect.unit (s := S8192x1024) (qOff k d q) S256x1024.size (qOff_inb k d q)
def agP (k : Fin 8) (d : Bool) (q : Fin 2) : Memref sig .tc .vmem S256x1024 .bf16 := agM.slice (agR k d q) (fun _ => rfl)
theorem ag_slice_eq {o : Fin 2 → Nat} (h : ∀ a, o a + S256x1024.size a ≤ S8192x1024.size a) {k : Fin 8} {d : Bool} {q : Fin 2} (e : o = qOff k d q) :
    Rect.unit (s := S8192x1024) o S256x1024.size h = agR k d q := by subst e; rfl
theorem agO_eq (c : Dev nD) (d : Bool) (t : Fin 7) (q : Fin 2) : agO c d t q = agP (bk d t.val c) d q := by
  unfold agO agP agR
  congr 1
  exact ag_slice_eq _ (agOff_eq c d t q)
theorem ownR_eq (c : Dev nD) (d : Bool) (q : Fin 2) : ownR c d q = agR (bk d 0 c) d q := ag_slice_eq _ (ownOff_eq c d q)
/-- The half of chunk `k` of the result that direction `d` carries. -/
def ouP (k : Fin 8) (d : Bool) : Memref sig .tc .hbm S512x512 .f32 := outP (rowOff k d) (rowO_inb k d)
theorem outC_mem (c : Dev nD) (d : Bool) (k : Fin 8) : outP (outC c d k) (outC_inb c d k) = ouP (bk d k.val c) d := by
  have : ∀ (o : Fin 2 → Nat) (h), o = rowOff (bk d k.val c) d → outP o h = ouP (bk d k.val c) d := by rintro o h rfl; rfl
  exact this _ _ (outC_eq c d k)

/-- A copy reads and lands the same number of elements of the same type, so all copies carry the same credit. -/
def N : ℕ := (rsP false 0 0).view.dmaCredit
theorem N_pos : 0 < N := View.dmaCredit_pos _ (by decide)
theorem N_rs (d s q) : (rsP d s q).view.dmaCredit = N := by cases d <;> rfl
theorem N_ag (k d q) : (agP k d q).view.dmaCredit = N := rfl
theorem N_dst (c : Dev nD) : ∀ h : Hop, (hopDst c h).view.dmaCredit = N
  | ⟨false, s, q, d⟩ => N_rs d _ q
  | ⟨true, s, q, d⟩ => rfl
theorem N_src (c : Dev nD) : ∀ h : Hop, (hopSrc c h).view.dmaCredit = N
  | ⟨false, s, q, d⟩ => N_rs d _ q
  | ⟨true, s, q, d⟩ => rfl

/-! ## The semaphores, by number -/

/-- The number of a hop's semaphore: the sender's (`false`) or the receiver's (`true`). -/
def semNum (h : Hop) (r : Bool) : Nat := 6 + 56 * bitN h.ph + 28 * bitN h.d + 14 * bitN r + 2 * h.s.val + h.q.val
theorem semO_val : ∀ ph d r s q, (semO ph d r s q).val = semNum ⟨ph, s, q, d⟩ r := by decide +kernel
theorem ldS_val : ∀ d, (ldS d).val = 2 + bitN d := by decide
theorem stS_val : ∀ d : Bool, (stS (bit d)).val = 4 + bitN d := by decide

end Cert.KernelIdeal.Ringed
-- ==== Proof.Values.lean ====
/- What the buffers hold: the partial sums that go round the ring, the gathered product, and the result, all as
   functions of the three argument arrays of every device, over any interpretation of the float formats. -/
module

public import proofs.«01_k».proof.Proof.Places
public import Idealize.ShloMosaic.Lib.ValueLayout

@[expose] public section

noncomputable section

namespace Cert.KernelIdeal.Ringed

open Idealize.ShloMosaic Idealize.ShloMosaic.TcCoe Idealize.SL.Sem
open Idealize.ShloMosaic.ValueIdx
open Cert.KernelIdeal.Gen

variable {F : FTy → Type} [FloatOps F]

/-- The three argument arrays of every device. -/
structure Ins (F : FTy → Type) [FloatOps F] where
  x : Dev nD → Vec F S8192x1024 .f32
  w1 : Dev nD → Vec F S1024x1024 .f32
  w2 : Dev nD → Vec F S1024x512 .f32

variable (I : Ins F)

/-- The weights as they are multiplied. -/
def w1b (c : Dev nD) : Vec F S1024x1024 .bf16 := k0_pay1 (I.w1 c)
def w2b (c : Dev nD) : Vec F S1024x512 .bf16 := k0_pay2 (I.w2 c)

/-- The half of chunk `k` of the activations that direction `d` carries. -/
def xH (c : Dev nD) (k : Fin 8) (d : Bool) : Vec F S512x1024 .f32 := (xP (rowOff k d) (rowX_inb k d)).view.read (Elt F) (I.x c)
/-- A quarter's product with the first weights on device `c`. -/
def part (c : Dev nD) (k : Fin 8) (d : Bool) (q : Fin 2) : FVec F S256x1024 .bf16 := k0_pay7 (fun j => xH I c k d ((stR q).emb j)) (w1b I c)
/-- What device `c` passes on at reduce-scatter step `s`: the sum of the parts of the `s + 1` devices behind it and itself. -/
def acc (d : Bool) (q : Fin 2) : Nat → Dev nD → FVec F S256x1024 .bf16
  | 0, c => part I c (bk d 1 c) d q
  | s + 1, c => addf (part I c (bk d (s + 2) c) d q) (acc d q s (frm d c))
/-- A chunk as a device. -/
def dev (k : Fin 8) : Dev nD := ⟨k.val, k.isLt⟩
theorem dev_bk_zero (d : Bool) (c : Dev nD) : dev (bk d 0 c) = c := Fin.ext (bk_zero d c)
theorem bk_dev (d : Bool) (k : Fin 8) : bk d 0 (dev k) = k := Fin.ext (bk_zero d (dev k))
/-- A quarter of the gathered product: all eight parts, as the chunk's own device ends with. -/
def gat (k : Fin 8) (d : Bool) (q : Fin 2) : FVec F S256x1024 .bf16 := acc I d q 7 (dev k)

/-- What a hop carries. -/
def hopVal (c : Dev nD) (h : Hop) : FVec F S256x1024 .bf16 :=
  match h.ph with
  | false => acc I h.d h.q h.s.val c
  | true => gat I (bk h.d h.s.val c) h.d h.q

/-- The direction and the quarter a row lies in. -/
def rowD (n : Nat) : Bool := decide (n / 512 % 2 = 1)
def rowQ (n : Nat) : Fin 2 := ⟨n / 256 % 2, Nat.mod_lt _ (by decide)⟩
def rowIn (n m : Nat) (h : 0 < m) : Fin m := ⟨n % m, Nat.mod_lt _ h⟩

/-- The gathered product, whole. -/
def agC : Vec F S8192x1024 .bf16 := fun i =>
  gat I ⟨(i 0).val / 1024, by have := idx2_lt0 i; omega⟩ (rowD (i 0).val) (rowQ (i 0).val) (ix2 (rowIn (i 0).val 256 (by decide)) (i 1))

/-- A half of a chunk of the gathered product. -/
def gatH (k : Fin 8) (d : Bool) : FVec F S512x1024 .bf16 := fun i =>
  gat I k d ⟨(i 0).val / 256, by have := idx2_lt0 i; omega⟩ (ix2 (rowIn (i 0).val 256 (by decide)) (i 1))

/-- A quarter's rows of the result on device `c`, and a half's rows. -/
def outQ (c : Dev nD) (k : Fin 8) (d : Bool) (q : Fin 2) : Vec F S256x512 .f32 :=
  matmul dot_S256x1024_S1024x512_S256x512_1_0_0_1_n_n none (gat I k d q) (w2b I c) (constant S256x512 .f32 0x00000000#32)
def outH (c : Dev nD) (k : Fin 8) (d : Bool) : Vec F S512x512 .f32 :=
  matmul dot_S512x1024_S1024x512_S512x512_1_0_0_1_n_n none (gatH I k d) (w2b I c) (constant S512x512 .f32 0x00000000#32)
/-- Two quarters, one under the other. -/
def stack (f : Fin 2 → Vec F S256x512 .f32) : Vec F S512x512 .f32 := fun i =>
  f ⟨(i 0).val / 256, by have := idx2_lt0 i; omega⟩ (ix2 (rowIn (i 0).val 256 (by decide)) (i 1))
/-- A half of a chunk of the result: the device's own chunk in one product, every other in two. -/
def outV (c : Dev nD) (k : Fin 8) (d : Bool) : Vec F S512x512 .f32 :=
  if dev k = c then outH I c k d else stack (outQ I c k d)
/-- The result on device `c`. -/
def outC' (c : Dev nD) : Vec F S8192x512 .f32 := fun i =>
  outV I c ⟨(i 0).val / 1024, by have := idx2_lt0 i; omega⟩ (rowD (i 0).val) (ix2 (rowIn (i 0).val 512 (by decide)) (i 1))

/-! ## The wholes at their pieces -/

/-- The chunk, the direction, the quarter and the place in it of a row counted from a quarter's first. -/
theorem row_split {n r q : Nat} {k : Fin 8} {d : Bool} (h : n = 1024 * k.val + 512 * bitN d + 256 * q + r) (hq : q < 2) (hr : r < 256) :
    n / 1024 = k.val ∧ rowD n = d ∧ n / 256 % 2 = q ∧ n % 256 = r ∧ n % 512 = 256 * q + r := by
  have hd := bitN_le d
  refine ⟨by omega, ?_, by omega, by omega, by omega⟩
  unfold rowD
  cases d
  · have : bitN false = 0 := rfl
    exact decide_eq_false (by omega)
  · have : bitN true = 1 := rfl
    exact decide_eq_true (by omega)

theorem idx2_ext {a b : Nat} {x y : (⟨2, ![a, b]⟩ : Shape).Idx} (h0 : (x 0).val = (y 0).val) (h1 : (x 1).val = (y 1).val) : x = y := by
  funext i
  match i with
  | ⟨0, _⟩ => exact Fin.ext h0
  | ⟨1, _⟩ => exact Fin.ext h1

theorem agC_at (x : S8192x1024.Idx) (j : S256x1024.Idx) (k : Fin 8) (d : Bool) (q : Fin 2)
    (h0 : (x 0).val = 1024 * k.val + 512 * bitN d + 256 * q.val + (j 0).val) (h1 : (x 1).val = (j 1).val) : agC I x = gat I k d q j := by
  obtain ⟨e1, e2, e3, e4, -⟩ := row_split h0 q.isLt (idx2_lt0 j)
  unfold agC
  rw [e2, show rowQ (x 0).val = q from Fin.ext e3,
    show (⟨(x 0).val / 1024, by have := idx2_lt0 x; omega⟩ : Fin 8) = k from Fin.ext e1]
  exact congrArg _ (idx2_ext e4 h1)

theorem gatH_at (i : S512x1024.Idx) (j : S256x1024.Idx) (k : Fin 8) (d : Bool) (q : Fin 2)
    (h0 : (i 0).val = 256 * q.val + (j 0).val) (h1 : (i 1).val = (j 1).val) : gatH I k d i = gat I k d q j := by
  have hj := idx2_lt0 j
  unfold gatH
  rw [show (⟨(i 0).val / 256, by have := idx2_lt0 i; omega⟩ : Fin 2) = q from Fin.ext (by show (i 0).val / 256 = _; omega)]
  exact congrArg _ (idx2_ext (by show (i 0).val % 256 = _; omega) h1)

theorem outC'_at (c : Dev nD) (x : S8192x512.Idx) (i : S512x512.Idx) (k : Fin 8) (d : Bool)
    (h0 : (x 0).val = 1024 * k.val + 512 * bitN d + (i 0).val) (h1 : (x 1).val = (i 1).val) : outC' I c x = outV I c k d i := by
  have hi := idx2_lt0 i
  obtain ⟨e1, e2, -, -, e5⟩ := row_split (q := (i 0).val / 256) (r := (i 0).val % 256) (k := k) (d := d) (n := (x 0).val) (by omega) (by omega) (by omega)
  unfold outC'
  rw [e2, show (⟨(x 0).val / 1024, by have := idx2_lt0 x; omega⟩ : Fin 8) = k from Fin.ext e1]
  exact congrArg _ (idx2_ext (by show (x 0).val % 512 = _; omega) h1)

/-- The rectangle of the half of chunk `k` that direction `d` carries, in the gathered product and in the result. -/
abbrev agRH (k : Fin 8) (d : Bool) : Rect S8192x1024 := Rect.unit (s := S8192x1024) (rowOff k d) S512x1024.size (rowX_inb k d)
abbrev ouR (k : Fin 8) (d : Bool) : Rect S8192x512 := Rect.unit (s := S8192x512) (rowOff k d) S512x512.size (rowO_inb k d)

/-- An index of a rectangle of unit strides, placed. -/
theorem unit_emb_val {s : Shape} (off size : Fin s.rank → Nat) (inb) (j : (Rect.unit (s := s) off size inb).shape.Idx) (a : Fin s.rank) :
    ((Rect.unit (s := s) off size inb).emb j a : Nat) = off a + (j a).val := by
  rw [Rect.emb_apply]; show off a + 1 * (j a : Nat) = _; omega

theorem agC_piece (k : Fin 8) (d : Bool) (q : Fin 2) : (fun j => agC I ((agR k d q).emb j)) = gat I k d q := by
  funext j
  exact agC_at I _ j k d q (unit_emb_val _ _ (qOff_inb k d q) j 0) ((unit_emb_val _ _ (qOff_inb k d q) j 1).trans (Nat.zero_add _))

theorem agC_half (k : Fin 8) (d : Bool) : (fun j => agC I ((agRH k d).emb j)) = gatH I k d := by
  funext j
  have hj : (j 0).val < 512 := idx2_lt0 j
  have h0 := unit_emb_val _ _ (rowX_inb k d) j 0
  have h1 := (unit_emb_val _ _ (rowX_inb k d) j 1).trans (Nat.zero_add _)
  have e0 : rowOff k d 0 = 1024 * k.val + 512 * bitN d := rfl
  let q : Fin 2 := ⟨(j 0).val / 256, by omega⟩
  let i : S256x1024.Idx := ix2 (rowIn (j 0).val 256 (by decide)) (j 1)
  have hi : (i 0).val = (j 0).val % 256 := rfl
  have hq : q.val = (j 0).val / 256 := rfl
  exact (agC_at I _ i k d q (h0.trans (by rw [e0, hi, hq]; omega)) h1).trans (gatH_at I j i k d q (by rw [hi, hq]; omega) rfl).symm

theorem outC'_piece (c : Dev nD) (k : Fin 8) (d : Bool) : (fun j => outC' I c ((ouR k d).emb j)) = outV I c k d := by
  funext j
  exact outC'_at I c _ j k d (unit_emb_val _ _ (rowO_inb k d) j 0) ((unit_emb_val _ _ (rowO_inb k d) j 1).trans (Nat.zero_add _))

/-! ## The printed payloads -/

theorem pay9_eq (v l : FVec F S256x1024 .bf16) :
    k0_pay9 v (shapeCast S1x256x1024 l shapeCasts_S256x1024_S1x256x1024) = shapeCast S1x256x1024 (addf v l) shapeCasts_S256x1024_S1x256x1024 := by
  unfold k0_pay9
  have : shapeCast S256x1024 (shapeCast S1x256x1024 l shapeCasts_S256x1024_S1x256x1024) shapeCasts_S1x256x1024_S256x1024 = l := by
    funext j; simp only [shapeCast, Shape.reshapeEquiv_reshapeEquiv, Shape.reshapeEquiv_self]
  simp only [this]
theorem pay57_eq (v l : FVec F S256x1024 .bf16) :
    k0_pay57 v (shapeCast S1x256x1024 l shapeCasts_S256x1024_S1x256x1024) = addf v l := by
  unfold k0_pay57
  have : shapeCast S256x1024 (shapeCast S1x256x1024 l shapeCasts_S256x1024_S1x256x1024) shapeCasts_S1x256x1024_S256x1024 = l := by
    funext j; simp only [shapeCast, Shape.reshapeEquiv_reshapeEquiv, Shape.reshapeEquiv_self]
  simp only [this]
  funext j; simp only [shapeCast, Shape.reshapeEquiv_self]

end Cert.KernelIdeal.Ringed
-- ==== Proof.Sched.lean ====
/- The protocol: the cells of the ring's semaphores, who pays which of them and what comes with it, what a device still
   owes after a number of hops, and the levels that let every wait be taken. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

/-- The ring's rounds (duties named by a direction), and the counters of the local copies. -/
abbrev UB : Type := URounds (GSem nD τ sig) Bool
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB UC).trans embR
instance ER_landsIn : (ER : Emb UB (MT nD τ sig Unit (Elt F) ℕ UU ℕ)).LandsIn (upEmb : UEmb _ (MT nD τ sig Unit (Elt F) ℕ UU ℕ)) := by
  unfold ER; infer_instance
abbrev EC : UEmb Counters (MT nD τ sig Unit (Elt F) ℕ UU ℕ) := countersEmb

abbrev 𝒱₀ : Variants := Variants.none

/-! ## The cells -/

/-- The ring's cells of one device: its barrier, and of each hop the sender's (`false`) and the receiver's (`true`). -/
abbrev KIx := Option (Hop × Bool)

/-- The runtime's barrier semaphore. -/
abbrev barS : Sem sig := (SemArray.scalar (sig.barrier 0 rfl) : Sems sig S_).sem

def csem : KIx → SemLoc sig
  | none => .reg barS
  | some (h, false) => .dma (sndS h)
  | some (h, true) => .dma (rcvS h)

theorem semNum_inj {h h' : Hop} {r r' : Bool} (e : semNum h r = semNum h' r') : h = h' ∧ r = r' := by
  obtain ⟨p, s, q, d⟩ := h; obtain ⟨p', s', q', d'⟩ := h'
  have := bitN_le p; have := bitN_le d; have := s.isLt; have := q.isLt; have := bitN_le r
  have := bitN_le p'; have := bitN_le d'; have := s'.isLt; have := q'.isLt; have := bitN_le r'
  simp only [semNum] at e
  have h1 := bitN_inj (a := r) (b := r') (by omega)
  have h2 := bitN_inj (a := d) (b := d') (by omega)
  have h3 := bitN_inj (a := p) (b := p') (by omega)
  have h4 : q = q' := Fin.ext (by omega)
  have h5 : s = s' := Fin.ext (by omega)
  subst h1 h2 h3 h4 h5; exact ⟨rfl, rfl⟩

theorem csem_hop (h : Hop) (r : Bool) : csem (some (h, r)) = .dma (semO h.ph h.d r h.s h.q) := by cases r <;> rfl

theorem csem_inj : Function.Injective csem := by
  rintro (_ | ⟨h, r⟩) (_ | ⟨h', r'⟩) e
  · rfl
  · rw [csem_hop] at e; cases e
  · rw [csem_hop] at e; cases e
  · rw [csem_hop, csem_hop] at e
    injection e with e
    have e' := congrArg Fin.val e
    rw [semO_val, semO_val] at e'
    obtain ⟨h1, h2⟩ := semNum_inj (h := h) (h' := h') e'
    subst h1 h2; rfl

open Classical in
/-- The ring's cell a semaphore is, if it is one. -/
def decode (s : SemLoc sig) : Option KIx := if h : ∃ k, csem k = s then some h.choose else none
theorem decode_csem (k : KIx) : decode (csem k) = some k := by
  unfold decode
  have h : ∃ k', csem k' = csem k := ⟨k, rfl⟩
  rw [dif_pos h]
  exact congrArg some (csem_inj h.choose_spec)
theorem decode_none {s : DmaSem sig} (hs : s.val < 6) : decode (.dma s) = none := by
  unfold decode
  refine dif_neg ?_
  rintro ⟨(_ | ⟨h, r⟩), e⟩
  · cases e
  · rw [csem_hop] at e
    injection e with e
    have e' := congrArg Fin.val e
    rw [semO_val] at e'
    unfold semNum at e'
    omega

abbrev kcell (ck : Dev nD × KIx) : GSem nD τ sig := ((ck.1 : Thread nD τ), csem ck.2)
abbrev barCell (c : Dev nD) : GSem nD τ sig := kcell (c, none)
abbrev sendCell (c : Dev nD) (h : Hop) : GSem nD τ sig := kcell (c, some (h, false))
abbrev recvCell (c : Dev nD) (h : Hop) : GSem nD τ sig := kcell (c, some (h, true))

theorem kcell_inj : Function.Injective (kcell : Dev nD × KIx → GSem nD τ sig) := by
  rintro ⟨c, k⟩ ⟨c', k'⟩ h
  have h1 : c = c' := by have := congrArg (fun g : GSem nD τ sig => g.1.1) h; exact this
  have h2 : k = k' := csem_inj (congrArg Prod.snd h)
  subst h1 h2; rfl

/-! ## What the payments carry -/

variable (I : Ins F)

/-- The rows on the device ahead in which device `c`'s hop `h` lands, with whatever they hold. -/
def landing (c : Dev nD) (h : Hop) : sProp 𝕄 :=
  iprop(∃ X, owns (c := ((tgt h.d c : Dev nD) : Thread nD τ)) (hopDst c h) fullShare X)
/-- With the signal from the device ahead in direction `d` come the rows in which all hops of that direction land. -/
def barPay (c : Dev nD) (d : Bool) : sProp 𝕄 := bigSep (Finset.univ.filter fun h : Hop => h.d = d) (fun h => landing c h)
/-- The share of its source that a hop takes along: all of a slot; of the gathered product the left half, since the
    device multiplies the rows while they are under way. -/
def shr (h : Hop) : PosShare TreeShare := if h.ph then fullShare.left else fullShare
def sendPay (c : Dev nD) (h : Hop) : sProp 𝕄 := owns (c := (c : Thread nD τ)) (hopSrc c h) (shr h) (hopVal I c h)
def recvPay (c : Dev nD) (h : Hop) : sProp 𝕄 := owns (c := (c : Thread nD τ)) (hopDst (frm h.d c) h) fullShare (hopVal I (frm h.d c) h)

omit [FloatOps F] in
instance landing_storable (c : Dev nD) (h : Hop) : BI.Storable (upEmb : UEmb _ 𝕄) (landing (F := F) c h) := by unfold landing; infer_instance
omit [FloatOps F] in
instance barPay_storable (c : Dev nD) (d : Bool) : BI.Storable (upEmb : UEmb _ 𝕄) (barPay (F := F) c d) := by unfold barPay; infer_instance
instance sendPay_storable (c : Dev nD) (h : Hop) : BI.Storable (upEmb : UEmb _ 𝕄) (sendPay I c h) := by unfold sendPay; infer_instance
instance recvPay_storable (c : Dev nD) (h : Hop) : BI.Storable (upEmb : UEmb _ 𝕄) (recvPay I c h) := by unfold recvPay; infer_instance

/-- What is paid to cell `k` of device `c`. -/
def payOf (c : Dev nD) (d : Bool) : Option KIx → sProp 𝕄
  | none => iprop(emp)
  | some none => barPay c d
  | some (some (h, false)) => sendPay I c h
  | some (some (h, true)) => recvPay I c h
instance payOf_storable (c : Dev nD) (d : Bool) : ∀ k, BI.Storable (upEmb : UEmb _ 𝕄) (payOf I c d k)
  | none => by unfold payOf; infer_instance
  | some none => by unfold payOf; infer_instance
  | some (some (h, false)) => by unfold payOf; infer_instance
  | some (some (h, true)) => by unfold payOf; infer_instance

def dutiesOf : Option KIx → Finset Bool
  | none => ∅
  | some none => Finset.univ
  | some (some _) => {false}
def amountOf' : Option KIx → ℕ
  | some none => 1
  | _ => N
theorem amountOf'_pos : ∀ k, 0 < amountOf' k
  | some none => Nat.one_pos
  | none => N_pos
  | some (some _) => N_pos

/-- One round: a barrier cell is paid one unit by each neighbour, a hop's cells the credit of a quarter each. -/
def ringRd : Rounds.Schedule (GSem nD τ sig) Bool 𝕄 where
  duties g r := if r = 0 ∧ g.1.2 = .tc then dutiesOf (decode g.2) else ∅
  unitless _ := False
  amount g _ _ := amountOf' (decode g.2)
  payload g _ d := payOf I g.1.1 d (decode g.2)
  amount_pos g _ _ _ := amountOf'_pos _

instance ringRd_storable (g : GSem nD τ sig) (r : ℕ) (d : Bool) : BI.Storable (upEmb : UEmb _ 𝕄) ((ringRd I).payload g r d) :=
  payOf_storable I g.1.1 d (decode g.2)

section Sched
variable (c : Dev nD) (h : Hop)

theorem duties_cell (k : KIx) : (ringRd I).duties (kcell (c, k)) 0 = dutiesOf (some k) := by
  dsimp only [ringRd, kcell]; rw [if_pos ⟨rfl, rfl⟩, decode_csem]
theorem duties_later (g : GSem nD τ sig) : ∀ r, 1 ≤ r → (ringRd I).duties g r = ∅ :=
  fun r hr => by dsimp only [ringRd]; exact if_neg fun h => by omega
theorem amount_cell (k : KIx) (d : Bool) : (ringRd I).amount (kcell (c, k)) 0 d = amountOf' (some k) := by
  dsimp only [ringRd, kcell]; rw [decode_csem]
theorem payload_cell (k : KIx) (d : Bool) : (ringRd I).payload (kcell (c, k)) 0 d = payOf I c d (some k) := by
  dsimp only [ringRd, kcell]; rw [decode_csem]

theorem expect_bar : (ringRd I).expect (barCell c) 0 = 2 := by
  unfold Schedule.expect Schedule.amountOf
  rw [duties_cell, Finset.sum_congr rfl fun d _ => amount_cell I c none d]
  rfl
theorem expect_hop (r : Bool) : (ringRd I).expect (kcell (c, some (h, r))) 0 = N := by
  unfold Schedule.expect Schedule.amountOf
  rw [duties_cell]
  show Finset.sum {false} _ = N
  rw [Finset.sum_singleton, amount_cell]
  rfl
theorem rest_bar : bigSep ((ringRd I).duties (barCell c) 0 \ ∅) (fun d => (ringRd I).payload (barCell c) 0 d)
    = iprop(barPay (F := F) c false ∗ barPay (F := F) c true) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_hop (r : Bool) : bigSep ((ringRd I).duties (kcell (c, some (h, r))) 0 \ ∅) (fun d => (ringRd I).payload (kcell (c, some (h, r))) 0 d)
    = payOf I c false (some (some (h, r))) := by
  rw [Finset.sdiff_empty, duties_cell]
  show bigSep {false} _ = _
  rw [bigSep_singleton, payload_cell]

end Sched

/-! ## What a device owes -/

/-- The hops from number `n` on. -/
def after (n : Nat) : Finset Hop := Finset.univ.filter fun h => n ≤ num h
theorem after_step (h : Hop) : after (num h) = insert h (after (num h + 1)) := by
  ext x
  simp only [after, Finset.mem_insert, Finset.mem_filter, Finset.mem_univ, true_and]
  constructor
  · intro hx
    rcases Nat.lt_or_ge (num h) (num x) with h1 | h1
    · exact .inr h1
    · exact .inl (num_inj (by omega))
  · rintro (rfl | hx) <;> omega
theorem not_mem_after (h : Hop) : h ∉ after (num h + 1) := by
  simp only [after, Finset.mem_filter, Finset.mem_univ, true_and]; omega

/-- Device `c`'s debt before hop `n`: of every hop from there on the credit of its landing. -/
def owe (c : Dev nD) (n : Nat) : CellTallies nD τ sig Unit := ∑ h ∈ after n, tallyAt (recvCell (tgt h.d c) h) () N
theorem owe_step (c : Dev nD) (h : Hop) : owe c (num h) = owe c (num h + 1) + tallyAt (recvCell (tgt h.d c) h) () N := by
  unfold owe
  rw [after_step, Finset.sum_insert (not_mem_after h), add_comm]
theorem owe_end (c : Dev nD) : owe c 56 = 0 := by
  unfold owe
  rw [show after 56 = ∅ from by
    ext x; simp only [after, Finset.mem_filter, Finset.mem_univ, true_and, Finset.notMem_empty, iff_false]; have := num_lt x; omega]
  rfl
theorem owe_pos {c : Dev nD} {n : Nat} {g : GSem nD τ sig} {u : Unit} (hp : 0 < owe c n g u) :
    ∃ h : Hop, n ≤ num h ∧ g = recvCell (tgt h.d c) h := by
  by_contra hn
  have hz : owe c n g u = 0 := by
    unfold owe
    rw [Finset.sum_apply, Finsupp.finset_sum_apply]
    refine Finset.sum_eq_zero fun h hh => ?_
    rw [tallyAt_apply]
    refine if_neg fun e => hn ⟨h, ?_, e.1⟩
    simpa [after] using hh
  omega

/-- At launch a device owes, besides, its two signals; the first to be given is the last summand. -/
def owe₁ (c : Dev nD) : CellTallies nD τ sig Unit := owe c 0 + tallyAt (barCell (tgt false c)) () 1
def owe₀ (c : Dev nD) : CellTallies nD τ sig Unit := owe₁ c + tallyAt (barCell (tgt true c)) () 1
theorem owe₀_pos {c : Dev nD} {g : GSem nD τ sig} {u : Unit} (hp : 0 < owe₀ c g u) :
    (∃ h : Hop, g = recvCell (tgt h.d c) h) ∨ ∃ e, g = barCell e := by
  unfold owe₀ owe₁ at hp
  rw [Pi.add_apply, Finsupp.add_apply, Pi.add_apply, Finsupp.add_apply, tallyAt_apply, tallyAt_apply] at hp
  by_cases h1 : 0 < owe c 0 g u
  · obtain ⟨h, -, e⟩ := owe_pos h1; exact .inl ⟨h, e⟩
  · refine .inr ?_
    by_contra hn
    rw [if_neg fun e => hn ⟨_, e.1⟩, if_neg fun e => hn ⟨_, e.1⟩] at hp
    omega

/-! ## The levels -/

def L (g : GSem nD τ sig) : Finset Unit := if g.1.2 = .tc then {()} else ∅
def lvOf : Option KIx → ℕ
  | some none => 1
  | some (some (h, true)) => 2 + num h
  | _ => 0
def lv (g : GSem nD τ sig) (_ : Unit) : ℕ := lvOf (decode g.2)
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KIx) : lv (kcell (c, k)) () = lvOf (some k) := by unfold lv; rw [decode_csem]

omit [FloatOps F] in
/-- A wait whose level is below those of the hops from `n` on may be taken before hop `n`. -/
theorem mayWait_owe (c : Dev nD) (sm : SemLoc sig) (n : Nat) (hl : lv ((c : Thread nD τ), sm) () < 2 + n) :
    (levAts L lv : sProp 𝕄) ⊢ MayWait (c : Thread nD τ) sm () (owe c n) :=
  MayOwe.of_cut (L := L) (lev := lv) (lv ((c : Thread nD τ), sm) ())
    (fun p hp => by rw [Finset.mem_singleton.mp hp, L_tc]; exact Finset.mem_singleton_self _)
    (fun g u hg => by obtain ⟨h, -, rfl⟩ := owe_pos hg; exact Finset.mem_singleton_self _)
    (fun p hp => by rw [Finset.mem_singleton.mp hp])
    (fun g u hg => by obtain ⟨h, hn, rfl⟩ := owe_pos hg; rw [lv_cell]; show _ < 2 + num h; omega)

omit [FloatOps F] in
/-- A wait of level zero may be taken while everything is owed. -/
theorem mayWait_start (c : Dev nD) (sm : SemLoc sig) (hl : lv ((c : Thread nD τ), sm) () = 0) :
    (levAts L lv : sProp 𝕄) ⊢ MayWait (c : Thread nD τ) sm () (owe₀ c) :=
  MayOwe.of_cut (L := L) (lev := lv) 0
    (fun p hp => by rw [Finset.mem_singleton.mp hp, L_tc]; exact Finset.mem_singleton_self _)
    (fun g u hg => by rcases owe₀_pos hg with ⟨h, rfl⟩ | ⟨e, rfl⟩ <;> exact Finset.mem_singleton_self _)
    (fun p hp => by rw [Finset.mem_singleton.mp hp, hl])
    (fun g u hg => by
      rcases owe₀_pos hg with ⟨h, rfl⟩ | ⟨e, rfl⟩
      · rw [lv_cell]; show 0 < 2 + num h; omega
      · rw [lv_cell]; exact Nat.one_pos)

theorem lv_dma {s : DmaSem sig} (hs : s.val < 6) (c : Dev nD) : lv ((c : Thread nD τ), .dma s) () = 0 := by
  unfold lv; rw [decode_none hs]; rfl
theorem lv_send (c : Dev nD) (h : Hop) : lv (sendCell c h) () = 0 := by rw [lv_cell]; rfl
theorem lv_recv (c : Dev nD) (h : Hop) : lv (recvCell c h) () = 2 + num h := by rw [lv_cell]; rfl
theorem lv_bar (c : Dev nD) : lv (barCell c) () = 1 := by rw [lv_cell]; rfl

end Cert.KernelIdeal.Ringed
-- ==== Proof.Mem.lean ====
/- Loads, stores and local copies of the kernel over rows held one piece at a time. -/
module

public import proofs.«01_k».proof.Proof.Sched
public import Idealize.ShloMosaic.Lib.Memref

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- A device's program run to `Q`. -/
abbrev WP (c : Dev nD) {α : Type} (p : Pg F α) (Q : α → sProp 𝕄) : sProp 𝕄 :=
  wp frame (wpE (defs₀ (F := F)) 𝒱₀ (c : Thread nD τ) none) Set.univ p Q

/-- A memref of device `c` held at `X`. -/
abbrev own (c : Dev nD) {sp : Space} {sh : Shape} {e : EltTy} (m : Memref sig .tc sp sh e) (q : PosShare TreeShare) (X : sh.Idx → Elt F e) : sProp 𝕄 :=
  owns (c := (c : Thread nD τ)) m q X

/-- Every element type has a value. -/
instance elt_nonempty : ∀ e, Nonempty (Elt F e)
  | .i1 | .i4 | .i8 | .i16 | .i32 | .i64 => ⟨0⟩
  | .fp8e4m3 | .fp8e5m2 | .bf16 | .f16 | .f32 => ⟨FloatOps.ofBits _ 0⟩

variable (c : Dev nD) {α : Type}

omit [FloatOps F] in
theorem own_def {sp : Space} {sh : Shape} {e : EltTy} (m : Memref sig .tc sp sh e) (q : PosShare TreeShare) (X : sh.Idx → Elt F e) :
    own c m q X ⊢ iprop(∃ f, ⌜m.view.read (Elt F) f = X⌝ ∗ (m.view.loc (c : Thread nD τ) ↦[m.view.set]{q} f)) := .rfl
omit [FloatOps F] in
theorem own_mk {sp : Space} {sh : Shape} {e : EltTy} (m : Memref sig .tc sp sh e) (q : PosShare TreeShare) (X : sh.Idx → Elt F e)
    (f : m.view.ty.Contents (Elt F)) (h : m.view.read (Elt F) f = X) : (m.view.loc (c : Thread nD τ) ↦[m.view.set]{q} f : sProp 𝕄) ⊢ own c m q X := by
  subst h; exact owns_intro _ _ _ _

theorem wp_end {a : α} {Q : α → sProp 𝕄} : Q a ⊢ WP c (.ret a) Q := by
  unfold WP; rw [wp_ret]; iintro H; imodintro; iexact H

/-- A load of a rectangle of a held memref. -/
theorem wp_get {cs : CoreSpace} {sh : Shape} {e : EltTy} {m : Memref sig .tc cs sh e} {r : Rect sh} {hl : m.view.LoadsAt r}
    {q : PosShare TreeShare} {X : sh.Idx → Elt F e} {Q : (r.shape.Idx → Elt F e) → sProp 𝕄} :
    own c m q X ⊢ iprop((own c m q X -∗ Q (fun j => X (r.emb j))) -∗ WP c (Prog.lift (.load m r.toLoadRect hl)) Q) := by
  iintro H Hk
  ihave H' := (own_def c m q X) $$ H
  icases H' with ⟨%f, %hf, H⟩
  iapply (wp_load_rect 𝒱₀ (c : Thread nD τ) none Set.univ (m := m) (r := r) (S := m.view.set) (View.set_slice_subset _ _)) $$ H
  iintro H
  have e1 : (m.access r).read (Elt F) f = fun j => X (r.emb j) := by rw [← hf]; rfl
  rw [e1]
  iapply wp_end
  iapply Hk
  iapply (own_mk c m q X f hf) $$ H

/-- A load of a slice that is held for itself. -/
theorem wp_getSlice {cs : CoreSpace} {sh : Shape} {e : EltTy} {m : Memref sig .tc cs sh e} {r : Rect sh} (hr : ∀ a, r.stride a = 1) {hl : m.view.LoadsAt r}
    {q : PosShare TreeShare} {X : r.shape.Idx → Elt F e} {Q : (r.shape.Idx → Elt F e) → sProp 𝕄} :
    own c (m.slice r hr) q X ⊢ iprop((own c (m.slice r hr) q X -∗ Q X) -∗ WP c (Prog.lift (.load m r.toLoadRect hl)) Q) := by
  iintro H Hk
  ihave H' := (own_def c (m.slice r hr) q X) $$ H
  icases H' with ⟨%f, %hf, H⟩
  iapply (wp_load_rect 𝒱₀ (c : Thread nD τ) none Set.univ (m := m) (r := r) (S := (m.slice r hr).view.set) (Finset.Subset.refl _)) $$ H
  iintro H
  have e1 : (m.access r).read (Elt F) f = X := hf
  rw [e1]
  iapply wp_end
  iapply Hk
  iapply (own_mk c (m.slice r hr) q X f hf) $$ H

/-- A store into a slice that is held for itself. -/
theorem wp_putSlice {cs : CoreSpace} {sh : Shape} {e : EltTy} {m : Memref sig .tc cs sh e} {r : Rect sh} (hr : ∀ a, r.stride a = 1) {w : r.shape.Idx → Elt F e}
    {hx : (m.access r).Stores Finset.univ} {hm : (Finset.univ : Finset r.shape.Idx) = Finset.univ ∨ ∀ a, r.stride a = 1} {X : r.shape.Idx → Elt F e} {Q : PUnit → sProp 𝕄} :
    own c (m.slice r hr) fullShare X ⊢ iprop((own c (m.slice r hr) fullShare w -∗ Q ⟨⟩) -∗ WP c (Prog.lift (.store m r w Finset.univ hx hm)) Q) := by
  iintro H Hk
  ihave H' := (own_def c (m.slice r hr) fullShare X) $$ H
  icases H' with ⟨%f, %hf, H⟩
  iapply (wp_store 𝒱₀ (c : Thread nD τ) none Set.univ (m := m) (r := r) (S := (m.slice r hr).view.set) (Mk := Finset.univ) (Finset.Subset.refl _)) $$ H
  iintro H
  iapply wp_end
  iapply Hk
  iapply (own_mk c (m.slice r hr) fullShare w _ (View.read_write_univ f w)) $$ H

theorem full_emb {sh : Shape} {o : Fin sh.rank → Nat} (h : ∀ a, o a + sh.size a ≤ sh.size a) (j : (Rect.unit (s := sh) o sh.size h).shape.Idx) :
    (Rect.unit (s := sh) o sh.size h).emb j = j := by
  refine funext fun a => Fin.ext ?_
  rw [Rect.emb_apply]
  have := h a
  show o a + 1 * (j a : Nat) = (j a : Nat)
  omega

/-- A load of all of a held memref. -/
theorem wp_getAll {cs : CoreSpace} {sh : Shape} {e : EltTy} {m : Memref sig .tc cs sh e} {o : Fin sh.rank → Nat} {h : ∀ a, o a + sh.size a ≤ sh.size a}
    {hl : m.view.LoadsAt (Rect.unit (s := sh) o sh.size h)} {q : PosShare TreeShare} {X : sh.Idx → Elt F e} {Q : (sh.Idx → Elt F e) → sProp 𝕄} :
    own c m q X ⊢ iprop((own c m q X -∗ Q X) -∗ WP c (Prog.lift (.load m (Rect.unit (s := sh) o sh.size h).toLoadRect hl)) Q) := by
  have e : (fun j : (Rect.unit (s := sh) o sh.size h).shape.Idx => X ((Rect.unit (s := sh) o sh.size h).emb j)) = X :=
    funext fun j => congrArg X (full_emb h j)
  have := wp_get c (m := m) (r := Rect.unit (s := sh) o sh.size h) (hl := hl) (q := q) (X := X) (Q := Q)
  rw [e] at this
  exact this

/-- A store over all of a held memref. -/
theorem wp_putAll {cs : CoreSpace} {sh : Shape} {e : EltTy} {m : Memref sig .tc cs sh e} {o : Fin sh.rank → Nat} {h : ∀ a, o a + sh.size a ≤ sh.size a}
    {w : sh.Idx → Elt F e} {hx : (m.access (Rect.unit (s := sh) o sh.size h)).Stores Finset.univ}
    {hm : (Finset.univ : Finset (Rect.unit (s := sh) o sh.size h).shape.Idx) = Finset.univ ∨ ∀ a, (Rect.unit (s := sh) o sh.size h).stride a = 1}
    {X : sh.Idx → Elt F e} {Q : PUnit → sProp 𝕄} :
    own c m fullShare X
      ⊢ iprop((own c m fullShare w -∗ Q ⟨⟩) -∗ WP c (Prog.lift (.store m (Rect.unit (s := sh) o sh.size h) w Finset.univ hx hm)) Q) := by
  iintro H Hk
  ihave H' := (own_def c m fullShare X) $$ H
  icases H' with ⟨%f, %hf, H⟩
  iapply (wp_store 𝒱₀ (c : Thread nD τ) none Set.univ (m := m) (r := Rect.unit (s := sh) o sh.size h) (S := m.view.set) (Mk := Finset.univ) (View.set_slice_subset _ _)) $$ H
  iintro H
  iapply wp_end
  iapply Hk
  iapply (own_mk c m fullShare w _ ?_) $$ H
  funext j
  have e1 := congrFun (View.read_write_univ (v := m.access (Rect.unit (s := sh) o sh.size h)) f w) j
  refine Eq.trans ?_ e1
  exact congrArg (m.view.read (Elt F) _) (full_emb h j).symm

/-! ## Local copies -/

/-- A local copy on its way, that brings `P` once it is waited for. -/
def Fl (sm : SemLoc sig) (n : ℕ) (P : sProp 𝕄) : sProp 𝕄 :=
  iprop(∃ D, Transfers.Flight EC (c : Thread nD τ) sm () n D ∗ (D -∗ P))

omit [FloatOps F] in
theorem Fl_mono {sm : SemLoc sig} {n : ℕ} {P P' : sProp 𝕄} : iprop(Fl c sm n P ∗ (P -∗ P')) ⊢ Fl c sm n P' := by
  unfold Fl
  iintro ⟨⟨%D, HF, Hw⟩, Hp⟩
  iexists D
  isplitl [HF]; · iexact HF
  iintro HD
  iapply Hp
  iapply Hw $$ HD

/-- The start of a local copy. -/
theorem wp_copy {sp sp' : Space} {sh : Shape} {e : EltTy} {src : Memref sig .tc sp sh e} {dst : Memref sig .tc sp' sh e} {sm : SemLoc sig}
    {hsrc : src.view.WordExact} {hdst : dst.view.WordExact} {hsem : DmaTarget.Typed (nD := nD) (τ := τ) sp sm (.here (p := Proc.tc) dst)} {q : PosShare TreeShare}
    {X Y : sh.Idx → Elt F e} (n : ℕ) (hn : dst.view.amount sm = n) (hn0 : 0 < n) {Q : PUnit → sProp 𝕄} :
    iprop(own c src q X ∗ own c dst fullShare Y ∗ semVal ((c : Thread nD τ), sm) 0)
      ⊢ iprop((Fl c sm n iprop(own c dst fullShare X ∗ own c src q X) -∗ Q ⟨⟩) -∗ WP c (Prog.lift (.enqueueDma src (.here dst) sm hsrc hdst hsem)) Q) := by
  iintro ⟨Hs, Hd, Hv⟩ Hk
  ihave Hs' := (own_def c src q X) $$ Hs
  icases Hs' with ⟨%fs, %hfs, Hs⟩
  ihave Hd' := (own_def c dst fullShare Y) $$ Hd
  icases Hd' with ⟨%fd, %hfd, Hd⟩
  iapply (Transfers.wp_dmaLocal EC 𝒱₀ (c : Thread nD τ) none () n hn hn0 (Finset.Subset.refl _)) $$ [Hs Hd Hv]
  · isplitl [Hs]; · iexact Hs
    isplitl [Hd]; · iexact Hd
    iexact Hv
  iintro HF
  iapply wp_end
  iapply Hk
  unfold Fl
  iexists _
  isplitl [HF]; · iexact HF
  iintro ⟨Hd, Hs⟩
  isplitl [Hd]
  · iapply (own_mk c dst fullShare X _ ((View.read_write_univ _ _).trans hfs)) $$ Hd
  · iapply (own_mk c src q X fs hfs) $$ Hs

/-- What a device owes before hop `n`, whatever it has waited for. -/
def Ow (n : Nat) : sProp 𝕄 := iprop(∃ W, owes (c : Thread nD τ) (owe c n) W)

/-- The wait for a local copy. -/
theorem wp_wait {sp sp' : Space} {sh : Shape} {e : EltTy} {src : Memref sig .tc sp sh e} {dst : Memref sig .tc sp' sh e} {sem : DmaSem sig}
    {hsrc : src.view.WordExact} {hdst : dst.view.WordExact} {n k : ℕ} (hn : dst.view.dmaCredit = n) (hs : sem.val < 6) {P : sProp 𝕄} {Q : PUnit → sProp 𝕄} :
    iprop(levAts L lv ∗ Fl c (.dma sem) n P ∗ Ow c k)
      ⊢ iprop(((P ∗ semVal ((c : Thread nD τ), .dma sem) 0 ∗ Ow c k) -∗ Q ⟨⟩) -∗ WP c (Prog.lift (.waitDma2 sem src dst hsrc hdst)) Q) := by
  unfold Fl Ow
  iintro ⟨#Hl, ⟨%D, HF, Hw⟩, ⟨%W, HO⟩⟩ Hk
  iapply (Transfers.wp_waitLocalO EC 𝒱₀ (c : Thread nD τ) none () hn) $$ [HF HO]
  · isplitl [HF]; · iexact HF
    isplitl [HO]; · iexact HO
    iapply (mayWait_owe c (.dma sem) k (by rw [lv_dma hs]; omega)); iexact Hl
  iintro ⟨HD, Hv, HO⟩
  iapply wp_end
  iapply Hk
  isplitl [HD Hw]; · iapply Hw $$ HD
  isplitl [Hv]; · iexact Hv
  iexists _; iexact HO

omit [FloatOps F] in
/-- A squeezed memref is held at the contents re-laid. -/
theorem own_squeeze {sp : Space} {s s' : Shape} {e : EltTy} (m : Memref sig .tc sp s e) (hs : s.Squeezes s') (h1 : s'.ShapeCasts s) (h2 : s.ShapeCasts s')
    (sh : PosShare TreeShare) (V : s'.Idx → Elt F e) :
    (own c (m.squeeze s' hs) sh V : sProp 𝕄) = own c m sh (shapeCast s V h1) := by
  unfold own owns
  have hset : (m.squeeze s' hs).view.set = m.view.set := View.set_reshape _ _
  have key : ∀ f, ((m.squeeze s' hs).view.read (Elt F) f = V) ↔ (m.view.read (Elt F) f = shapeCast s V h1) := by
    intro f
    have hr : (m.squeeze s' hs).view.read (Elt F) f = shapeCast s' (m.view.read (Elt F) f) h2 := rfl
    rw [hr]
    constructor
    · rintro rfl
      funext j
      exact congrArg _ ((Shape.reshapeEquiv_reshapeEquiv _ _ j).trans (Shape.reshapeEquiv_self _ j)).symm
    · intro h
      rw [h]
      funext j
      exact congrArg V ((Shape.reshapeEquiv_reshapeEquiv _ _ j).trans (Shape.reshapeEquiv_self _ j))
  refine congrArg (fun Φ : _ → sProp 𝕄 => iprop(∃ f, Φ f)) (funext fun f => ?_)
  rw [hset]
  have : (iprop(⌜(m.squeeze s' hs).view.read (Elt F) f = V⌝) : sProp 𝕄) = iprop(⌜m.view.read (Elt F) f = shapeCast s V h1⌝) := by
    rw [propext (key f)]
  exact congrArg (fun P : sProp 𝕄 => iprop(P ∗ _)) this

omit [FloatOps F] in
/-- A slot's quarter, as the copies name it, is the slice the loads and stores name. -/
theorem own_rsP (d : Bool) (s : Fin 8) (q : Fin 2) (sh : PosShare TreeShare) (V : S256x1024.Idx → Elt F .bf16) :
    (own c (rsP d s q) sh V : sProp 𝕄)
      = own c ((rsM d).slice (rsR s q) (fun _ => rfl)) sh (shapeCast S1x256x1024 V shapeCasts_S256x1024_S1x256x1024) :=
  own_squeeze c _ squeezes_S1x256x1024_S256x1024 _ shapeCasts_S1x256x1024_S256x1024 sh V

end Cert.KernelIdeal.Ringed
-- ==== Proof.Hops.lean ====
/- The remote copies one at a time: what a device holds of its fifty-six hops while it starts them, waits for their
   landings and waits for their ends, as three counters that each step advances by one. -/
module

public import proofs.«01_k».proof.Proof.Mem

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × KIx → ℕ) (c : Dev nD)

/-- What every device knows: every cell's invariant, that every cell is at its first round, and the levels. -/
def Rec : sProp 𝕄 :=
  iprop(bigSep Finset.univ (fun ck => cellInv ER (ringRd I) (K ck) (kcell ck)) ∗ bigSep Finset.univ (fun ck => reached ER (kcell ck) 0) ∗ levAts L lv)
instance Rec_persistent : Persistent (Rec I K) := by unfold Rec; infer_instance

theorem Rec_inv (ck : Dev nD × KIx) : Rec I K ⊢ cellInv ER (ringRd I) (K ck) (kcell ck) := by
  unfold Rec; iintro ⟨#H, -, -⟩; iapply (show bigSep Finset.univ (fun ck => cellInv ER (ringRd I) (K ck) (kcell ck)) ⊢ cellInv ER (ringRd I) (K ck) (kcell ck) from bigSep_elim (Finset.mem_univ ck)) $$ H
theorem Rec_reached (ck : Dev nD × KIx) : Rec I K ⊢ reached ER (kcell ck) 0 := by
  unfold Rec; iintro ⟨-, #H, -⟩; iapply (show bigSep Finset.univ (fun ck : Dev nD × KIx => (reached ER (kcell ck) 0 : sProp 𝕄)) ⊢ reached ER (kcell ck) 0 from bigSep_elim (Finset.mem_univ ck)) $$ H
theorem Rec_lev : Rec I K ⊢ levAts L lv := by
  unfold Rec; iintro ⟨-, -, #H⟩; iexact H

/-- Before a hop is started: the two duties it pays, the place on the sender's cell, and the rows it lands in. -/
def Pre (h : Hop) : sProp 𝕄 :=
  iprop(dutyTok ER (sendCell c h) 0 false ∗ dutyTok ER (recvCell (tgt h.d c) h) 0 false ∗ atPos ER (sendCell c h) 0 ∅ 0 ∗ landing c h)
/-- Afterwards: the place, and the credit to wait with. -/
def Sent (h : Hop) : sProp 𝕄 := iprop(atPos ER (sendCell c h) 0 ∅ 0 ∗ cred (tallyAt (sendCell c h) () N))
/-- After the wait for its end: its source again. -/
def Done (h : Hop) : sProp 𝕄 := iprop(semVal (sendCell c h) 0 ∗ sendPay I c h)
def Sends (n : Nat) : sProp 𝕄 := bigSep Finset.univ fun h : Hop => if n ≤ num h then Pre c h else Sent c h
def Backs (n : Nat) : sProp 𝕄 := bigSep Finset.univ fun h : Hop => if n ≤ num h then Sent c h else Done I c h

/-- Before a hop's landing is waited for: the place and the credit. -/
def Due (h : Hop) : sProp 𝕄 := iprop(atPos ER (recvCell c h) 0 ∅ 0 ∗ cred (tallyAt (recvCell c h) () N))
/-- What a device keeps of what has landed: nothing of a slot it sends on from, the last slot, the right half of the
    rows it passes on, all of the last rows. -/
def Kept (h : Hop) : sProp 𝕄 :=
  match h.ph with
  | false => if h.s = 6 then own c (rsP h.d 6 h.q) fullShare (hopVal I (frm h.d c) h) else iprop(emp)
  | true => own c (agP (bk h.d (h.s.val + 1) c) h.d h.q) (if h.s = 6 then fullShare else fullShare.right) (gat I (bk h.d (h.s.val + 1) c) h.d h.q)
def Got (h : Hop) : sProp 𝕄 := iprop(semVal (recvCell c h) 0 ∗ Kept I c h)
def Recvs (n : Nat) : sProp 𝕄 := bigSep Finset.univ fun h : Hop => if n ≤ num h then Due c h else Got I c h

/-- One counter's step. -/
theorem counter_step (A B : Hop → sProp 𝕄) (h : Hop) :
    bigSep Finset.univ (fun x : Hop => if num h ≤ num x then A x else B x)
      ⊢ iprop(A h ∗ (B h -∗ bigSep Finset.univ (fun x : Hop => if num h + 1 ≤ num x then A x else B x))) := by
  have := bigSep_univ_update (Φ := fun x : Hop => if num h ≤ num x then A x else B x)
    (Ψ := fun x : Hop => if num h + 1 ≤ num x then A x else B x) h (fun x hx => by
      have : num x ≠ num h := fun e => hx (num_inj e)
      by_cases h1 : num h ≤ num x
      · rw [if_pos h1, if_pos (by omega)]
      · rw [if_neg h1, if_neg (by omega)])
  rw [if_pos (le_refl _), if_neg (by omega)] at this
  exact this

variable {Q : PUnit → sProp 𝕄}

/-- The start of a hop. -/
theorem wp_send (h : Hop) {n : Nat} (hn : num h = n) {Q : PUnit → sProp 𝕄} :
    iprop(Rec I K ∗ Sends c n ∗ Ow c n ∗ own c (hopSrc c h) (shr h) (hopVal I c h))
      ⊢ iprop(((Sends c (n + 1) ∗ Ow c (n + 1)) -∗ Q ⟨⟩) -∗ WP c (sendH c h) Q) := by
  subst hn
  unfold Sends Ow
  iintro ⟨#HR, HS, ⟨%W, HO⟩, Hsrc⟩ Hk
  ihave HS' := (counter_step (Pre c) (Sent c) h) $$ HS
  icases HS' with ⟨Hp, HS⟩
  unfold Pre
  icases Hp with ⟨Ht1, Ht2, Hat, Hl⟩
  unfold landing
  icases Hl with ⟨%Y, Hl⟩
  ihave Hs' := (own_def c (hopSrc c h) (shr h) (hopVal I c h)) $$ Hsrc
  icases Hs' with ⟨%fs, %hfs, Hsrc⟩
  ihave Hd' := (own_def (tgt h.d c) (hopDst c h) fullShare Y) $$ Hl
  icases Hd' with ⟨%fd, %hfd, Hl⟩
  iapply (Rounds.wp_send_pointsTo 𝒱₀ ER (ringRd I) (c : Thread nD τ) none (κ₁ := K (c, some (h, false))) (κ₂ := K (tgt h.d c, some (h, true)))
    (r₁ := 0) (r₂ := 0) (d₁ := false) (d₂ := false) (fs := fs) (fd := fd)
    (by show _ ∈ (ringRd I).duties (kcell (c, some (h, false))) 0; rw [duties_cell]; exact Finset.mem_singleton_self _)
    (by show _ ∈ (ringRd I).duties (kcell (tgt h.d c, some (h, true))) 0; rw [duties_cell]; exact Finset.mem_singleton_self _)
    () () N (show (hopDst c h).view.amount (.dma (rcvS h)) = N from N_dst c h) (amount_cell I c (some (h, false)) false) (amount_cell I (tgt h.d c) (some (h, true)) false) (owe c (num h + 1)) (owe_step c h) (W := W)
    (by
      show _ ⊢ (ringRd I).payload (kcell (c, some (h, false))) 0 false
      rw [payload_cell]
      exact own_mk c (hopSrc c h) (shr h) _ fs hfs)
    (by
      show _ ⊢ (ringRd I).payload (kcell (tgt h.d c, some (h, true))) 0 false
      rw [payload_cell]
      show _ ⊢ recvPay I (tgt h.d c) h
      unfold recvPay
      rw [frm_tgt]
      exact own_mk (tgt h.d c) (hopDst c h) fullShare _ _ ((View.read_write_univ _ _).trans hfs))) $$ [Ht1 Ht2 Hsrc Hl HO]
  · isplitr; · iapply (Rec_inv I K (c, some (h, false))); iexact HR
    isplitr; · iapply (Rec_inv I K (tgt h.d c, some (h, true))); iexact HR
    isplitl [Hsrc]; · iexact Hsrc
    isplitl [Hl]; · iexact Hl
    isplitl [HO]; · iexact HO
    isplitl [Ht1]; · iexact Ht1
    isplitr; · iapply (Rec_reached I K (c, some (h, false))); iexact HR
    isplitl [Ht2]; · iexact Ht2
    iapply (Rec_reached I K (tgt h.d c, some (h, true))); iexact HR
  iintro ⟨Hc, HO⟩
  iapply wp_end
  iapply Hk
  isplitl [HS Hat Hc]
  · iapply HS
    unfold Sent
    isplitl [Hat]; · iexact Hat
    iexact Hc
  iexists W; iexact HO

/-- The wait for a hop's landing: the rows, and what is kept of them goes back into the counter. -/
theorem wp_recv (h : Hop) {m n : Nat} (hm : num h = m) (hmn : m < n) {Q : PUnit → sProp 𝕄} :
    iprop(Rec I K ∗ Recvs I c m ∗ Ow c n)
      ⊢ iprop(((recvPay I c h ∗ (Kept I c h -∗ Recvs I c (m + 1)) ∗ Ow c n) -∗ Q ⟨⟩) -∗ WP c (waitR c h) Q) := by
  subst hm
  unfold Recvs Ow
  iintro ⟨#HR, HS, ⟨%W, HO⟩⟩ Hk
  ihave HS' := (counter_step (Due c) (Got I c) h) $$ HS
  icases HS' with ⟨Hp, HS⟩
  unfold Due
  icases Hp with ⟨Hat, Hc⟩
  iapply (Rounds.wp_wait_rest_token 𝒱₀ ER (ringRd I) (c : Thread nD τ) none (κ := K (c, some (h, true)))
      (wpE_waitDma2_eq 𝒱₀ (c : Thread nD τ) none Set.univ) (Set.mem_univ _) () (O := owe c n) (W := W) (R := 0) (m := 0) (T := ∅)
      (by rw [Nat.zero_add, N_dst]; exact (expect_hop I c h true).symm)) $$ [Hc HO Hat]
  · isplitr; · iapply (Rec_inv I K (c, some (h, true))); iexact HR
    isplitl [Hc]; · rw [N_dst]; iexact Hc
    isplitl [HO]; · iexact HO
    isplitr
    · iapply (mayWait_owe c (.dma (rcvS h)) n (by have := lv_recv c h; show lv (recvCell c h) () < _; omega))
      iapply (Rec_lev I K); iexact HR
    iexact Hat
  iintro ⟨HO, Hat, -, Hpay⟩
  ihave Hp := (Entails.of_eq (show bigSep ((ringRd I).duties ((c : Thread nD τ), .dma (rcvS h)) 0 \ ∅)
      (fun d => (ringRd I).payload ((c : Thread nD τ), .dma (rcvS h)) 0 d) = recvPay I c h from rest_hop I c h true)) $$ Hpay
  imod (Rounds.cell_close ER (ringRd I) (Set.mem_univ (K (c, some (h, true)))) (fun h => h) (R := 0 + 1) (duties_later I (recvCell c h))) $$ [Hat] with Hz
  · isplitr; · iapply (Rec_inv I K (c, some (h, true))); iexact HR
    iexact Hat
  iapply wp_end
  iapply Hk
  isplitl [Hp]; · iexact Hp
  isplitl [HS Hz]
  · iintro HK
    iapply HS
    unfold Got
    isplitl [Hz]; · iexact Hz
    iexact HK
  iexists _; iexact HO

/-- The wait for a hop's end at its sender, when nothing is owed any more. -/
theorem wp_back (h : Hop) {m : Nat} (hm : num h = m) {Q : PUnit → sProp 𝕄} :
    iprop(Rec I K ∗ Backs I c m ∗ Ow c 56)
      ⊢ iprop(((Backs I c (m + 1) ∗ Ow c 56) -∗ Q ⟨⟩) -∗ WP c (waitS c h) Q) := by
  subst hm
  unfold Backs Ow
  iintro ⟨#HR, HS, ⟨%W, HO⟩⟩ Hk
  ihave HS' := (counter_step (Sent c) (Done I c) h) $$ HS
  icases HS' with ⟨Hp, HS⟩
  unfold Sent
  icases Hp with ⟨Hat, Hc⟩
  iapply (Rounds.wp_wait_rest_token 𝒱₀ ER (ringRd I) (c : Thread nD τ) none (κ := K (c, some (h, false)))
      (wpE_waitDma2_eq 𝒱₀ (c : Thread nD τ) none Set.univ) (Set.mem_univ _) () (O := owe c 56) (W := W) (R := 0) (m := 0) (T := ∅)
      (by rw [Nat.zero_add, N_src]; exact (expect_hop I c h false).symm)) $$ [Hc HO Hat]
  · isplitr; · iapply (Rec_inv I K (c, some (h, false))); iexact HR
    isplitl [Hc]; · rw [N_src]; iexact Hc
    isplitl [HO]; · iexact HO
    isplitr
    · iapply (mayWait_owe c (.dma (sndS h)) 56 (by have := lv_send c h; show lv (sendCell c h) () < _; omega))
      iapply (Rec_lev I K); iexact HR
    iexact Hat
  iintro ⟨HO, Hat, -, Hpay⟩
  ihave Hp := (Entails.of_eq (show bigSep ((ringRd I).duties ((c : Thread nD τ), .dma (sndS h)) 0 \ ∅)
      (fun d => (ringRd I).payload ((c : Thread nD τ), .dma (sndS h)) 0 d) = sendPay I c h from rest_hop I c h false)) $$ Hpay
  imod (Rounds.cell_close ER (ringRd I) (Set.mem_univ (K (c, some (h, false)))) (fun h => h) (R := 0 + 1) (duties_later I (sendCell c h))) $$ [Hat] with Hz
  · isplitr; · iapply (Rec_inv I K (c, some (h, false))); iexact HR
    iexact Hat
  iapply wp_end
  iapply Hk
  isplitl [HS Hp Hz]
  · iapply HS
    unfold Done
    isplitl [Hz]; · iexact Hz
    iexact Hp
  iexists _; iexact HO

/-- When all hops are started, all ends are still to be waited for. -/
theorem Sends_all : Sends c 56 ⊢ (Backs I c 0 : sProp 𝕄) := by
  unfold Sends Backs
  refine Entails.of_eq (bigSep_congr fun h _ => ?_)
  rw [if_neg (by have := num_lt h; omega), if_pos (Nat.zero_le _)]

end Cert.KernelIdeal.Ringed
-- ==== Proof.Pieces.lean ====
/- Two quarters held one by one are the half held as one: of the gathered product and of the output staging slots. -/
module

public import proofs.«01_k».proof.Proof.Hops

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (c : Dev nD)

omit [FloatOps F] in
/-- A rectangle of a whole buffer, held at the buffer's contents there. -/
theorem own_slice {sp : Space} {sh : Shape} {e : EltTy} (m : Memref sig .tc sp sh e) (r : Rect sh) (hr : ∀ a, r.stride a = 1) (q : PosShare TreeShare)
    (g : m.view.ty.Contents (Elt F)) (X : r.shape.Idx → Elt F e) (hX : X = fun j => m.view.read (Elt F) g (r.emb j)) :
    (own c (m.slice r hr) q X : sProp 𝕄) = (m.view.loc (c : Thread nD τ) ↦[(m.view.slice r).set]{q} g) := by
  subst hX; exact owns_slice_read (c := (c : Thread nD τ)) (m := m) (q := q) r hr g

omit [FloatOps F] in
/-- A held rectangle that two disjoint ones make up. -/
theorem own_two {b : Ref sig .tc} (r r₀ r₁ : Rect b.ty.shape) (hr : ∀ a, r.stride a = 1) (h₀ : ∀ a, r₀.stride a = 1) (h₁ : ∀ a, r₁.stride a = 1)
    (hd : Disjoint r₀.set r₁.set) (hu : r.set = r₀.set ∪ r₁.set) (q : PosShare TreeShare) (g : b.ty.Contents (Elt F)) :
    (own c ((Memref.whole b).slice r hr) q (fun j => g (r.emb j)) : sProp 𝕄)
      = iprop(own c ((Memref.whole b).slice r₀ h₀) q (fun j => g (r₀.emb j)) ∗ own c ((Memref.whole b).slice r₁ h₁) q (fun j => g (r₁.emb j))) := by
  refine (own_slice c (Memref.whole b) r hr q g _ rfl).trans (Eq.trans ?_ (congrArg₂ (fun P P' : sProp 𝕄 => iprop(P ∗ P'))
    (own_slice c (Memref.whole b) r₀ h₀ q g _ rfl).symm (own_slice c (Memref.whole b) r₁ h₁ q g _ rfl).symm))
  have e : ((Memref.whole b).view.slice r).set = ((Memref.whole b).view.slice r₀).set ∪ ((Memref.whole b).view.slice r₁).set := by
    simp only [Memref.view_whole, View.set_slice_whole]; exact hu
  rw [e]
  have hd' : Disjoint ((Memref.whole b).view.slice r₀).set ((Memref.whole b).view.slice r₁).set := by
    simp only [Memref.view_whole, View.set_slice_whole]; exact hd
  exact Entails.antisymm (pointsTo_union hd').1 (pointsTo_union hd').2

theorem mem_agR (k : Fin 8) (d : Bool) (q : Fin 2) (i : S8192x1024.Idx) :
    i ∈ (agR k d q).set ↔ 1024 * k.val + 512 * bitN d + 256 * q.val ≤ (i 0).val ∧ (i 0).val < 1024 * k.val + 512 * bitN d + 256 * q.val + 256 := by
  have h1 : (i 1).val < 1024 := (i 1).isLt
  refine (Rect.mem_set_unit.trans Fin.forall_fin_two).trans ⟨fun h => h.1, fun h => ⟨h, Nat.zero_le _, ?_⟩⟩
  show (i 1).val < 0 + 1024; omega
theorem mem_agRH (k : Fin 8) (d : Bool) (i : S8192x1024.Idx) :
    i ∈ (agRH k d).set ↔ 1024 * k.val + 512 * bitN d ≤ (i 0).val ∧ (i 0).val < 1024 * k.val + 512 * bitN d + 512 := by
  have h1 : (i 1).val < 1024 := (i 1).isLt
  refine (Rect.mem_set_unit.trans Fin.forall_fin_two).trans ⟨fun h => h.1, fun h => ⟨h, Nat.zero_le _, ?_⟩⟩
  show (i 1).val < 0 + 1024; omega
theorem agRH_set (k : Fin 8) (d : Bool) : (agRH k d).set = (agR k d 0).set ∪ (agR k d 1).set := by
  ext i
  rw [Finset.mem_union, mem_agRH, mem_agR, mem_agR]
  have q0 : ((0 : Fin 2) : Nat) = 0 := rfl
  have q1 : ((1 : Fin 2) : Nat) = 1 := rfl
  rw [q0, q1]
  omega
theorem agR_disjoint (k : Fin 8) (d : Bool) : Disjoint (agR k d 0).set (agR k d 1).set := by
  rw [Finset.disjoint_left]
  intro i h h'
  rw [mem_agR] at h h'
  have q0 : ((0 : Fin 2) : Nat) = 0 := rfl
  have q1 : ((1 : Fin 2) : Nat) = 1 := rfl
  rw [q0] at h; rw [q1] at h'
  omega

/-- A half of a chunk of the gathered product is its two quarters. -/
theorem own_agH (k : Fin 8) (d : Bool) (q : PosShare TreeShare) :
    (own c (agM.slice (agRH k d) (fun _ => rfl)) q (gatH I k d) : sProp 𝕄)
      = iprop(own c (agP k d 0) q (gat I k d 0) ∗ own c (agP k d 1) q (gat I k d 1)) := by
  have h := own_two (F := F) c (b := cc0_scratch5) (agRH k d) (agR k d 0) (agR k d 1) (fun _ => rfl) (fun _ => rfl) (fun _ => rfl)
    (agR_disjoint k d) (agRH_set k d) q (agC I)
  have e := agC_half I k d
  have e0 := agC_piece I k d 0
  have e1 := agC_piece I k d 1
  exact (congrArg (fun X => own c (agM.slice (agRH k d) (fun _ => rfl)) q X) e.symm).trans
    (h.trans (congrArg₂ (fun X Y => iprop(own c (agP k d 0) q X ∗ own c (agP k d 1) q Y)) e0 e1))

/-! ## The output staging slots -/

theorem ostS_set (d : Fin 2) : (ostS d).set = (ostR d 0).set ∪ (ostR d 1).set := by
  ext i
  have h1 : (i 1).val < 512 := (i 1).isLt
  simp only [ostS, ostR, Finset.mem_union, Rect.mem_set_unit, Fin.forall_fin_succ, Fin.forall_fin_zero_pi]
  simp
  omega
theorem ostR_disjoint (d : Fin 2) : Disjoint (ostR d 0).set (ostR d 1).set := by
  rw [Finset.disjoint_left]
  intro i h h'
  have a : (i 1).val < 0 + 256 := (Rect.mem_set_unit.1 h 1).2
  have b : 256 ≤ (i 1).val := (Rect.mem_set_unit.1 h' 1).1
  omega

/-- A quarter of a staging slot, held at a quarter's rows. -/
def ostQ (d q : Fin 2) (Y : Vec F S256x512 .f32) : sProp 𝕄 :=
  own c (ostM.slice (ostR d q) (fun _ => rfl)) fullShare (shapeCast S1x256x512 Y shapeCasts_S256x512_S1x256x512)

/-- The contents of both slots, when each holds the two quarters' rows. -/
def ostG (Y : Fin 2 → Vec F S256x512 .f32) : Vec F S2x512x512 .f32 := fun i => stack Y (ix2 (i 1) (i 2))

omit [FloatOps F] in
theorem stack_at (Y : Fin 2 → Vec F S256x512 .f32) (i : S512x512.Idx) (q : Fin 2) (j : S256x512.Idx)
    (h0 : (i 0).val = 256 * q.val + (j 0).val) (h1 : (i 1).val = (j 1).val) : stack Y i = Y q j := by
  have hj := idx2_lt0 j
  unfold stack
  rw [show (⟨(i 0).val / 256, by have := idx2_lt0 i; omega⟩ : Fin 2) = q from Fin.ext (by show (i 0).val / 256 = _; omega)]
  exact congrArg _ (idx2_ext (by show (i 0).val % 256 = _; omega) h1)

omit [FloatOps F] in
/-- A matrix re-laid as a stack of one, read. -/
theorem cast3 {a b : Nat} {e : EltTy} (V : (⟨2, ![a, b]⟩ : Shape).Idx → Elt F e) (h : (⟨2, ![a, b]⟩ : Shape).ShapeCasts ⟨3, ![1, a, b]⟩)
    (h' : (⟨3, ![1, a, b]⟩ : Shape).ShapeCasts ⟨2, ![a, b]⟩) (j : (⟨3, ![1, a, b]⟩ : Shape).Idx) :
    shapeCast ⟨3, ![1, a, b]⟩ V h j = V (ix2 (j 1) (j 2)) := by
  have e1 := reshapeEquiv_ix2_1ab h' (j 1) (j 2)
  have e2 : j = ix3 (⟨0, Nat.one_pos⟩ : Fin 1) (j 1) (j 2) := by
    funext i
    match i with
    | ⟨0, _⟩ => exact Fin.ext (by have : (j 0).val < 1 := (j 0).isLt; show (j 0).val = 0; omega)
    | ⟨1, _⟩ => rfl
    | ⟨2, _⟩ => rfl
  have e3 := e2.trans e1.symm
  unfold shapeCast
  refine congrArg V ?_
  refine (congrArg _ e3).trans ?_
  exact (Shape.reshapeEquiv_reshapeEquiv _ _ _).trans (Shape.reshapeEquiv_self _ _)

omit [FloatOps F] in
/-- A staging slot is its two quarters. -/
theorem own_ost (d : Fin 2) (Y : Fin 2 → Vec F S256x512 .f32) :
    (own c (ostP d) fullShare (stack Y) : sProp 𝕄) = iprop(ostQ c d 0 (Y 0) ∗ ostQ c d 1 (Y 1)) := by
  have h := own_two (F := F) c (b := cc0_scratch2) (ostS d) (ostR d 0) (ostR d 1) (fun _ => rfl) (fun _ => rfl) (fun _ => rfl)
    (ostR_disjoint d) (ostS_set d) fullShare (ostG Y)
  have e : (fun j => ostG Y ((ostS d).emb j)) = shapeCast S1x512x512 (stack Y) shapeCasts_S512x512_S1x512x512 := by
    funext j
    refine Eq.trans ?_ (cast3 (stack Y) shapeCasts_S512x512_S1x512x512 shapeCasts_S1x512x512_S512x512 j).symm
    exact congrArg (stack Y) (idx2_ext ((unit_emb_val _ _ (ostS_inb d) j 1).trans (Nat.zero_add _)) ((unit_emb_val _ _ (ostS_inb d) j 2).trans (Nat.zero_add _)))
  have eq : ∀ q, (fun j => ostG Y ((ostR d q).emb j)) = shapeCast S1x256x512 (Y q) shapeCasts_S256x512_S1x256x512 := by
    intro q
    funext j
    refine Eq.trans ?_ (cast3 (Y q) shapeCasts_S256x512_S1x256x512 shapeCasts_S1x256x512_S256x512 j).symm
    exact stack_at Y _ q _ (unit_emb_val _ _ (ost_inb d q) j 1) ((unit_emb_val _ _ (ost_inb d q) j 2).trans (Nat.zero_add _))
  refine (own_squeeze c _ squeezes_S1x512x512_S512x512 shapeCasts_S512x512_S1x512x512 shapeCasts_S1x512x512_S512x512 fullShare (stack Y)).trans ?_
  exact (congrArg (fun X => own c (ostM.slice (ostS d) (fun _ => rfl)) fullShare X) e.symm).trans
    (h.trans (congrArg₂ (fun X Y => iprop(own c (ostM.slice (ostR d 0) (fun _ => rfl)) fullShare X ∗ own c (ostM.slice (ostR d 1) (fun _ => rfl)) fullShare Y)) (eq 0) (eq 1)))

omit [FloatOps F] in
/-- Any rows of a half are two quarters, one under the other. -/
theorem stack_any (V : Vec F S512x512 .f32) : V = stack fun q j => V (ix2 ⟨256 * q.val + (j 0).val, by have := idx2_lt0 j; have := q.isLt; omega⟩ (j 1)) := by
  funext i
  have hi := idx2_lt0 i
  rw [stack_at _ i ⟨(i 0).val / 256, by omega⟩ (ix2 (rowIn (i 0).val 256 (by decide)) (i 1)) (by show (i 0).val = 256 * ((i 0).val / 256) + (i 0).val % 256; omega) rfl]
  exact congrArg V (idx2_ext (by show (i 0).val = 256 * ((i 0).val / 256) + (i 0).val % 256; omega) rfl)

end Cert.KernelIdeal.Ringed
-- ==== Proof.Steps.lean ====
/- The steps of the schedule, each from what a device holds before it to what it holds after it: loads of the
   activations, products, the reduce-scatter's accumulations. -/
module

public import proofs.«01_k».proof.Proof.Pieces

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (K : Dev nD × KIx → ℕ) (c : Dev nD)

theorem WP_bind {α β : Type} (p : Pg F α) (k : α → Pg F β) (Q : β → sProp 𝕄) : WP c (p >>= k) Q = WP c p (fun a => WP c (k a) Q) :=
  wp_bind _ _ _ _ _ _
theorem WP_pure {α : Type} (a : α) (Q : α → sProp 𝕄) : Q a ⊢ WP c (pure a) Q := wp_end c

/-! ## The activations -/

/-- The share of the activations that a direction's loads use. -/
def xsh (d : Bool) : PosShare TreeShare := if d then fullShare.right else fullShare.left
def xAt (d : Bool) : sProp 𝕄 := own c xM (xsh d) (I.x c)
/-- The credit of a load. -/
def NX : ℕ := (stM false).view.dmaCredit
theorem NX_pos : 0 < NX := View.dmaCredit_pos _ (by decide)
theorem NX_eq : ∀ d, (stM d).view.dmaCredit = NX | false => rfl | true => rfl
/-- No load under way; a load of chunk `k`'s half under way; that half loaded. -/
def Xidle (d : Bool) : sProp 𝕄 := iprop((∃ Y, own c (stM d) fullShare Y) ∗ xAt I c d ∗ semVal ((c : Thread nD τ), .dma (ldS d)) 0)
def Xfly (d : Bool) (k : Fin 8) : sProp 𝕄 := Fl c (.dma (ldS d)) NX iprop(own c (stM d) fullShare (xH I c k d) ∗ xAt I c d)
def Xhas (d : Bool) (k : Fin 8) : sProp 𝕄 :=
  iprop(own c (stM d) fullShare (xH I c k d) ∗ xAt I c d ∗ semVal ((c : Thread nD τ), .dma (ldS d)) 0)

theorem Xhas_idle (d : Bool) (k : Fin 8) : Xhas I c d k ⊢ Xidle I c d := by
  unfold Xhas Xidle
  iintro ⟨H, Hx⟩
  isplitl [H]; · iexists _; iexact H
  iexact Hx

/-- The half of chunk `k` out of all the activations, and back. -/
theorem xAt_split (d : Bool) (k : Fin 8) :
    xAt I c d ⊢ iprop(own c (xP (rowOff k d) (rowX_inb k d)) (xsh d) (xH I c k d) ∗ (own c (xP (rowOff k d) (rowX_inb k d)) (xsh d) (xH I c k d) -∗ xAt I c d)) := by
  unfold xAt
  have e : (own c xM (xsh d) (I.x c) : sProp 𝕄) = (xM.view.loc (c : Thread nD τ) ↦[xM.view.set]{xsh d} I.x c) := by
    unfold own
    refine (owns_whole (c : Thread nD τ) main_arg0 (xsh d) (I.x c)).trans ?_
    exact congrArg (fun S => (xM.view.loc (c : Thread nD τ) ↦[S]{xsh d} I.x c : sProp 𝕄)) (View.set_whole main_arg0).symm
  have e2 := own_slice (F := F) c xM (Rect.unit (s := S8192x1024) (rowOff k d) S512x1024.size (rowX_inb k d)) (fun _ => rfl) (xsh d) (I.x c) (xH I c k d) rfl
  have hs : (xM.view.slice (Rect.unit (s := S8192x1024) (rowOff k d) S512x1024.size (rowX_inb k d))).set ⊆ xM.view.set := View.set_slice_subset _ _
  rw [e, show (own c (xP (rowOff k d) (rowX_inb k d)) (xsh d) (xH I c k d) : sProp 𝕄) = _ from e2]
  iintro H
  ihave H' := (pointsTo_split_subset hs).1 $$ H
  icases H' with ⟨H1, H2⟩
  isplitl [H1]; · iexact H1
  iintro H1
  iapply (pointsTo_split_subset hs).2
  isplitl [H1]; · iexact H1
  iexact H2

theorem wp_ldX (d : Bool) (k : Fin 8) {o : Fin 2 → Nat} (h : ∀ a, o a + S512x1024.size a ≤ S8192x1024.size a) (ho : o = rowOff k d) {Q : PUnit → sProp 𝕄} :
    Xidle I c d ⊢ iprop((Xfly I c d k -∗ Q ⟨⟩) -∗ WP c (ldX d o h) Q) := by
  subst ho
  unfold Xidle Xfly
  iintro ⟨⟨%Y, HY⟩, Hx, Hv⟩ Hk
  ihave Hx' := (xAt_split I c d k) $$ Hx
  icases Hx' with ⟨Hx, Hback⟩
  iapply (wp_copy c (src := xP (rowOff k d) h) (dst := stM d) NX (show (stM d).view.amount (.dma (ldS d)) = NX from NX_eq d) NX_pos) $$ [HY Hx Hv]
  · isplitl [Hx]; · iexact Hx
    isplitl [HY]; · iexact HY
    iexact Hv
  iintro HF
  iapply Hk
  iapply (Fl_mono c)
  isplitl [HF]; · iexact HF
  iintro ⟨Hd, Hs⟩
  isplitl [Hd]; · iexact Hd
  iapply Hback $$ Hs

theorem wp_wtX (d : Bool) (k : Fin 8) {n : Nat} {o : Fin 2 → Nat} (h : ∀ a, o a + S512x1024.size a ≤ S8192x1024.size a) {Q : PUnit → sProp 𝕄} :
    iprop(Rec I K ∗ Xfly I c d k ∗ Ow c n) ⊢ iprop(((Xhas I c d k ∗ Ow c n) -∗ Q ⟨⟩) -∗ WP c (wtX d o h) Q) := by
  unfold Xfly Xhas
  iintro ⟨#HR, HF, HO⟩ Hk
  iapply (wp_wait c (NX_eq d) (by have := bitN_le d; rw [ldS_val]; omega)) $$ [HF HO]
  · isplitr; · iapply (Rec_lev I K); iexact HR
    isplitl [HF]; · iexact HF
    iexact HO
  iintro ⟨⟨H1, H2⟩, Hv, HO⟩
  iapply Hk
  isplitr [HO]
  · isplitl [H1]; · iexact H1
    isplitl [H2]; · iexact H2
    iexact Hv
  iexact HO

/-! ## Products and slots -/

theorem wp_getSt (d : Bool) (q : Fin 2) (X : Vec F S512x1024 .f32) {hl} {Q : Vec F S256x1024 .f32 → sProp 𝕄} :
    own c (stM d) fullShare X
      ⊢ iprop((own c (stM d) fullShare X -∗ Q (fun j => X ((stR q).emb j))) -∗ WP c (Prog.lift (.load (stM d) (stR q).toLoadRect hl)) Q) :=
  wp_get c (m := stM d) (r := stR q) (hl := hl) (q := fullShare) (X := X) (Q := Q)
/-- A load and a store of a quarter of the gathered product, the quarter's rows given by any offset that is theirs. -/
theorem wp_getAg {o : Fin 2 → Nat} {h : ∀ a, o a + S256x1024.size a ≤ S8192x1024.size a} {k : Fin 8} {d : Bool} {q : Fin 2} (ho : o = qOff k d q)
    {sh : PosShare TreeShare} {X : Vec F S256x1024 .bf16} {hl} {Q : Vec F S256x1024 .bf16 → sProp 𝕄} :
    own c (agP k d q) sh X
      ⊢ iprop((own c (agP k d q) sh X -∗ Q X) -∗ WP c (Prog.lift (.load agM (Rect.unit (s := S8192x1024) o S256x1024.size h).toLoadRect hl)) Q) := by
  subst ho; exact wp_getSlice c (m := agM) (r := agR k d q) (fun _ => rfl)
theorem wp_putAg {o : Fin 2 → Nat} {h : ∀ a, o a + S256x1024.size a ≤ S8192x1024.size a} {k : Fin 8} {d : Bool} {q : Fin 2} (ho : o = qOff k d q)
    {X W : Vec F S256x1024 .bf16} {hx hm} {Q : PUnit → sProp 𝕄} :
    own c (agP k d q) fullShare X
      ⊢ iprop((own c (agP k d q) fullShare W -∗ Q ⟨⟩) -∗ WP c (Prog.lift (.store agM (Rect.unit (s := S8192x1024) o S256x1024.size h) W Finset.univ hx hm)) Q) := by
  subst ho; exact wp_putSlice c (m := agM) (r := agR k d q) (fun _ => rfl)

omit [FloatOps F] in
/-- A full share is its two halves. -/
theorem own_halves {sp : Space} {sh : Shape} {e : EltTy} (m : Memref sig .tc sp sh e) (X : sh.Idx → Elt F e) :
    own c m fullShare X ⊢ (iprop(own c m fullShare.left X ∗ own c m fullShare.right X) : sProp 𝕄) := by
  iintro H
  ihave H' := (own_def c m fullShare X) $$ H
  icases H' with ⟨%f, %hf, H⟩
  ihave H2 := (pointsTo_share (PosShare.mem_left_op_right fullShare)).1 $$ H
  icases H2 with ⟨H1, H2⟩
  isplitl [H1]
  · iapply (own_mk c m fullShare.left X f hf) $$ H1
  · iapply (own_mk c m fullShare.right X f hf) $$ H2

/-- The product of a loaded quarter with the first weights. -/
theorem wp_dotQ (d : Bool) (k : Fin 8) (q : Fin 2) {Q : FVec F S256x1024 .bf16 → sProp 𝕄} :
    iprop(Xhas I c d k ∗ own c w1M fullShare (w1b I c))
      ⊢ iprop(((Xhas I c d k ∗ own c w1M fullShare (w1b I c)) -∗ Q (part I c k d q)) -∗ WP c (dotQ d q) Q) := by
  unfold Xhas dotQ part
  simp only [WP_bind]
  iintro ⟨⟨HX, Hr⟩, HW⟩ Hk
  iapply (wp_getSt c d q (xH I c k d)) $$ HX
  iintro HX
  iapply (wp_getAll c) $$ HW
  iintro HW
  iapply (WP_pure c)
  iapply Hk
  isplitr [HW]
  · isplitl [HX]; · iexact HX
    iexact Hr
  iexact HW

/-- A store into a slot's quarter. -/
theorem wp_putRs (d : Bool) (s : Fin 8) (q : Fin 2) (V W : FVec F S256x1024 .bf16) {Q : PUnit → sProp 𝕄} :
    own c (rsP d s q) fullShare V
      ⊢ iprop((own c (rsP d s q) fullShare W -∗ Q ⟨⟩) -∗ WP c (putRs d s q (shapeCast S1x256x1024 W shapeCasts_S256x1024_S1x256x1024)) Q) := by
  rw [own_rsP, own_rsP]
  unfold putRs
  simp only [WP_bind]
  iintro H Hk
  iapply (wp_getSlice c (m := rsM d) (r := rsR s q) (fun _ => rfl)) $$ H
  iintro H
  iapply (wp_putSlice c (m := rsM d) (r := rsR s q) (fun _ => rfl)) $$ H
  iintro H
  iapply Hk $$ H

/-- What a device holds of the ring before hop `n` starts, `m` of its landings waited for. -/
def Ring (m n : Nat) : sProp 𝕄 := iprop(Recvs I c m ∗ Sends c n ∗ Ow c n)

theorem Ring_eq (m n : Nat) : Ring I c m n = iprop(Recvs I c m ∗ Sends c n ∗ Ow c n) := rfl

/-- The first product of a quarter, put into slot 7 and sent. -/
theorem wp_first (q : Fin 2) (d : Bool) {n : Nat} (hn : 2 * q.val + bitN d = n) {Q : PUnit → sProp 𝕄} :
    iprop(Rec I K ∗ Ring I c 0 n ∗ Xhas I c d (bk d 1 c) ∗ own c w1M fullShare (w1b I c) ∗ (∃ V, own c (rsP d 7 q) fullShare V))
      ⊢ iprop(((Ring I c 0 (n + 1) ∗ Xhas I c d (bk d 1 c) ∗ own c w1M fullShare (w1b I c)) -∗ Q ⟨⟩) -∗ WP c (first c q d) Q) := by
  unfold Ring first
  simp only [WP_bind]
  iintro ⟨#HR, ⟨HRv, HS, HO⟩, HX, HW, ⟨%V, HV⟩⟩ Hk
  iapply (wp_dotQ I c d (bk d 1 c) q) $$ [HX HW]
  · isplitl [HX]; · iexact HX
    iexact HW
  iintro ⟨HX, HW⟩
  iapply (wp_putRs c d 7 q V (part I c (bk d 1 c) d q)) $$ HV
  iintro HV
  iapply (wp_send I K c ⟨false, 0, q, d⟩ (n := n) (by unfold num; show ((bitN false * 7 + 0) * 2 + q.val) * 2 + bitN d = n; have : bitN false = 0 := rfl; omega)) $$ [HS HO HV]
  · isplitr; · iexact HR
    isplitl [HS]; · iexact HS
    isplitl [HO]; · iexact HO
    iexact HV
  iintro ⟨HS, HO⟩
  iapply Hk
  isplitr [HX HW]
  · isplitl [HRv]; · iexact HRv
    isplitl [HS]; · iexact HS
    iexact HO
  isplitl [HX]; · iexact HX
  iexact HW

theorem castSucc_ne : ∀ s : Fin 6, s.castSucc ≠ (6 : Fin 7) := by decide
theorem slotA_succ (s : Fin 6) : slotA s.succ = slotB s.castSucc := by
  revert s; decide
theorem num_rs (s : Fin 7) (q : Fin 2) (d : Bool) : num ⟨false, s, q, d⟩ = 4 * s.val + 2 * q.val + bitN d := by
  unfold num
  show ((bitN false * 7 + s.val) * 2 + q.val) * 2 + bitN d = _
  have : bitN false = 0 := rfl
  omega
theorem num_ag (s : Fin 7) (q : Fin 2) (d : Bool) : num ⟨true, s, q, d⟩ = 28 + 4 * s.val + 2 * q.val + bitN d := by
  unfold num
  show ((bitN true * 7 + s.val) * 2 + q.val) * 2 + bitN d = _
  have : bitN true = 1 := rfl
  omega

/-- A quarter of a reduce-scatter step. -/
theorem wp_accRs (s : Fin 6) (q : Fin 2) (d : Bool) {m : Nat} (hm : 4 * s.val + 2 * q.val + bitN d = m) {Q : PUnit → sProp 𝕄} :
    iprop(Rec I K ∗ Ring I c m (m + 4))
      ⊢ iprop((Ring I c (m + 1) (m + 5) -∗ Q ⟨⟩) -∗ WP c (accRs c s q d (part I c (bk d (s.val + 2) c) d q)) Q) := by
  unfold Ring accRs
  simp only [WP_bind]
  iintro ⟨#HR, HRv, HS, HO⟩ Hk
  iapply (wp_recv I K c ⟨false, s.castSucc, q, d⟩ (m := m) (n := m + 4) (by rw [num_rs]; exact hm) (by omega)) $$ [HRv HO]
  · isplitr; · iexact HR
    isplitl [HRv]; · iexact HRv
    iexact HO
  iintro ⟨Hp, Hback, HO⟩
  ihave Hp1 := (Entails.of_eq (show recvPay I c ⟨false, s.castSucc, q, d⟩ = own c (rsP d (slotB s.castSucc) q) fullShare (acc I d q s.val (frm d c)) from rfl)) $$ Hp
  ihave Hp2 := (Entails.of_eq (own_rsP c d (slotB s.castSucc) q fullShare (acc I d q s.val (frm d c)))) $$ Hp1
  iapply (wp_getSlice c (m := rsM d) (r := rsR (slotB s.castSucc) q) (fun _ => rfl)) $$ Hp2
  iintro Hp
  ihave Hp1 := (Entails.of_eq (own_rsP c d (slotB s.castSucc) q fullShare (acc I d q s.val (frm d c))).symm) $$ Hp
  rw [pay9_eq]
  iapply (wp_putRs c d (slotB s.castSucc) q _ (addf (part I c (bk d (s.val + 2) c) d q) (acc I d q s.val (frm d c)))) $$ Hp1
  iintro Hp
  ihave Hp1 := (Entails.of_eq (show own c (rsP d (slotB s.castSucc) q) fullShare (addf (part I c (bk d (s.val + 2) c) d q) (acc I d q s.val (frm d c)))
    = own c (hopSrc c ⟨false, s.succ, q, d⟩) (shr ⟨false, s.succ, q, d⟩) (hopVal I c ⟨false, s.succ, q, d⟩) from by
      show _ = own c (rsP d (slotA s.succ) q) fullShare (acc I d q (s.val + 1) c)
      rw [slotA_succ]; rfl)) $$ Hp
  iapply (wp_send I K c ⟨false, s.succ, q, d⟩ (n := m + 4) (by rw [num_rs, Fin.val_succ]; omega)) $$ [HS HO Hp1]
  · isplitr; · iexact HR
    isplitl [HS]; · iexact HS
    isplitl [HO]; · iexact HO
    iexact Hp1
  iintro ⟨HS, HO⟩
  iapply Hk
  isplitl [Hback]
  · iapply Hback
    rw [show Kept I c ⟨false, s.castSucc, q, d⟩ = iprop(emp) from if_neg (castSucc_ne s)]
    iempintro
  isplitl [HS]; · iexact HS
  iexact HO

/-- What a device holds of the activations and the first weights between steps. -/
def Acts : sProp 𝕄 := iprop(Xidle I c false ∗ Xidle I c true ∗ own c w1M fullShare (w1b I c))

/-- A reduce-scatter step. -/
theorem wp_rsStep (s : Fin 6) {Q : PUnit → sProp 𝕄} :
    iprop(Rec I K ∗ Acts I c ∗ Ring I c (4 * s.val) (4 * s.val + 4))
      ⊢ iprop(((Acts I c ∗ Ring I c (4 * s.val + 4) (4 * s.val + 8)) -∗ Q ⟨⟩) -∗ WP c (rsStep c s) Q) := by
  unfold Acts rsStep
  simp only [WP_bind]
  iintro ⟨#HR, ⟨HF, HT, HW⟩, HG⟩ Hk
  iapply (wp_ldX I c false (bk false (s.val + 2) c) _ (xOff_eq c false s.castSucc)) $$ HF
  iintro HF
  iapply (wp_ldX I c true (bk true (s.val + 2) c) _ (xOff_eq c true s.castSucc)) $$ HT
  iintro HT
  ihave HG' := (Entails.of_eq (Ring_eq I c (4 * s.val) (4 * s.val + 4))) $$ HG
  icases HG' with ⟨HRv, HS, HO⟩
  iapply (wp_wtX I K c false (bk false (s.val + 2) c)) $$ [HF HO]
  · isplitr; · iexact HR
    isplitl [HF]; · iexact HF
    iexact HO
  iintro ⟨HF, HO⟩
  iapply (wp_dotQ I c false (bk false (s.val + 2) c) 0) $$ [HF HW]
  · isplitl [HF]; · iexact HF
    iexact HW
  iintro ⟨HF, HW⟩
  iapply (wp_wtX I K c true (bk true (s.val + 2) c)) $$ [HT HO]
  · isplitr; · iexact HR
    isplitl [HT]; · iexact HT
    iexact HO
  iintro ⟨HT, HO⟩
  iapply (wp_dotQ I c true (bk true (s.val + 2) c) 0) $$ [HT HW]
  · isplitl [HT]; · iexact HT
    iexact HW
  iintro ⟨HT, HW⟩
  iapply (wp_accRs I K c s 0 false (m := 4 * s.val) rfl) $$ [HRv HS HO]
  · isplitr; · iexact HR
    iapply (Entails.of_eq (Ring_eq I c (4 * s.val) (4 * s.val + 4)).symm)
    isplitl [HRv]; · iexact HRv
    isplitl [HS]; · iexact HS
    iexact HO
  iintro HG
  iapply (wp_accRs I K c s 0 true (m := 4 * s.val + 1) rfl) $$ [HG]
  · isplitr; · iexact HR
    iexact HG
  iintro HG
  iapply (wp_dotQ I c false (bk false (s.val + 2) c) 1) $$ [HF HW]
  · isplitl [HF]; · iexact HF
    iexact HW
  iintro ⟨HF, HW⟩
  iapply (wp_dotQ I c true (bk true (s.val + 2) c) 1) $$ [HT HW]
  · isplitl [HT]; · iexact HT
    iexact HW
  iintro ⟨HT, HW⟩
  iapply (wp_accRs I K c s 1 false (m := 4 * s.val + 2) rfl) $$ [HG]
  · isplitr; · iexact HR
    iexact HG
  iintro HG
  iapply (wp_accRs I K c s 1 true (m := 4 * s.val + 3) rfl) $$ [HG]
  · isplitr; · iexact HR
    iexact HG
  iintro HG
  iapply Hk
  isplitr [HG]
  · isplitl [HF]; · iapply (Xhas_idle I c false _) $$ HF
    isplitl [HT]; · iapply (Xhas_idle I c true _) $$ HT
    iexact HW
  iexact HG

/-- A quarter of the last reduce-scatter step: the finished rows start round the ring, their right half stays. -/
theorem wp_accLast (q : Fin 2) (d : Bool) {m : Nat} (hm : 24 + 2 * q.val + bitN d = m) {Q : PUnit → sProp 𝕄} :
    iprop(Rec I K ∗ Ring I c m (m + 4) ∗ (∃ V, own c (agP (bk d 0 c) d q) fullShare V))
      ⊢ iprop(((Ring I c (m + 1) (m + 5) ∗ own c (agP (bk d 0 c) d q) fullShare.right (gat I (bk d 0 c) d q)) -∗ Q ⟨⟩)
          -∗ WP c (accLast c q d (part I c (bk d 8 c) d q)) Q) := by
  unfold Ring accLast
  simp only [WP_bind]
  iintro ⟨#HR, ⟨HRv, HS, HO⟩, ⟨%V, HV⟩⟩ Hk
  iapply (wp_recv I K c ⟨false, 6, q, d⟩ (m := m) (n := m + 4) (by rw [num_rs]; exact hm) (by omega)) $$ [HRv HO]
  · isplitr; · iexact HR
    isplitl [HRv]; · iexact HRv
    iexact HO
  iintro ⟨Hp, Hback, HO⟩
  ihave Hp1 := (Entails.of_eq (show recvPay I c ⟨false, 6, q, d⟩ = own c (rsP d (slotB 6) q) fullShare (acc I d q 6 (frm d c)) from rfl)) $$ Hp
  ihave Hp2 := (Entails.of_eq (own_rsP c d (slotB 6) q fullShare (acc I d q 6 (frm d c)))) $$ Hp1
  iapply (wp_getSlice c (m := rsM d) (r := rsR (slotB 6) q) (fun _ => rfl)) $$ Hp2
  iintro Hp
  ihave Hp1 := (Entails.of_eq (own_rsP c d (slotB 6) q fullShare (acc I d q 6 (frm d c))).symm) $$ Hp
  rw [pay57_eq]
  iapply (wp_getAg c (ownOff_eq c d q)) $$ HV
  iintro HV
  iapply (wp_putAg c (ownOff_eq c d q)) $$ HV
  iintro HV
  ihave HV1 := (Entails.of_eq (show own c (agP (bk d 0 c) d q) fullShare (addf (part I c (bk d 8 c) d q) (acc I d q 6 (frm d c)))
    = own c (agP (bk d 0 c) d q) fullShare (gat I (bk d 0 c) d q) from by unfold gat; rw [dev_bk_zero]; rfl)) $$ HV
  ihave HV2 := (own_halves c _ _) $$ HV1
  icases HV2 with ⟨HL, Hr⟩
  ihave HL1 := (Entails.of_eq (show own c (agP (bk d 0 c) d q) fullShare.left (gat I (bk d 0 c) d q)
    = own c (hopSrc c ⟨true, 0, q, d⟩) (shr ⟨true, 0, q, d⟩) (hopVal I c ⟨true, 0, q, d⟩) from by
      show _ = own c (agO c d 0 q) fullShare.left (gat I (bk d 0 c) d q)
      rw [agO_eq]; rfl)) $$ HL
  iapply (wp_send I K c ⟨true, 0, q, d⟩ (n := m + 4) (by rw [num_ag]; show 28 + 4 * 0 + 2 * q.val + bitN d = _; omega)) $$ [HS HO HL1]
  · isplitr; · iexact HR
    isplitl [HS]; · iexact HS
    isplitl [HO]; · iexact HO
    iexact HL1
  iintro ⟨HS, HO⟩
  iapply Hk
  isplitr [Hr]
  · isplitl [Hback Hp1]
    · iapply Hback
      rw [show Kept I c ⟨false, 6, q, d⟩ = own c (rsP d 6 q) fullShare (acc I d q 6 (frm d c)) from rfl]
      iexact Hp1
    isplitl [HS]; · iexact HS
    iexact HO
  iexact Hr

/-- The right halves of the quarters of its own chunk. -/
def Mine (d : Bool) : sProp 𝕄 :=
  iprop(own c (agP (bk d 0 c) d 0) fullShare.right (gat I (bk d 0 c) d 0) ∗ own c (agP (bk d 0 c) d 1) fullShare.right (gat I (bk d 0 c) d 1))
def MineAny (d : Bool) : sProp 𝕄 := iprop((∃ V, own c (agP (bk d 0 c) d 0) fullShare V) ∗ (∃ V, own c (agP (bk d 0 c) d 1) fullShare V))

/-- The last reduce-scatter step. -/
theorem wp_lastStep {Q : PUnit → sProp 𝕄} :
    iprop(Rec I K ∗ Acts I c ∗ Ring I c 24 28 ∗ MineAny c false ∗ MineAny c true)
      ⊢ iprop(((Acts I c ∗ Ring I c 28 32 ∗ Mine I c false ∗ Mine I c true) -∗ Q ⟨⟩) -∗ WP c (lastStep c) Q) := by
  unfold Acts lastStep Mine MineAny
  simp only [WP_bind]
  iintro ⟨#HR, ⟨HF, HT, HW⟩, HG, ⟨HF0, HF1⟩, ⟨HT0, HT1⟩⟩ Hk
  iapply (wp_ldX I c false (bk false 8 c) _ (xOff_eq c false 6)) $$ HF
  iintro HF
  iapply (wp_ldX I c true (bk true 8 c) _ (xOff_eq c true 6)) $$ HT
  iintro HT
  ihave HG' := (Entails.of_eq (Ring_eq I c 24 28)) $$ HG
  icases HG' with ⟨HRv, HS, HO⟩
  iapply (wp_wtX I K c false (bk false 8 c)) $$ [HF HO]
  · isplitr; · iexact HR
    isplitl [HF]; · iexact HF
    iexact HO
  iintro ⟨HF, HO⟩
  iapply (wp_dotQ I c false (bk false 8 c) 0) $$ [HF HW]
  · isplitl [HF]; · iexact HF
    iexact HW
  iintro ⟨HF, HW⟩
  iapply (wp_wtX I K c true (bk true 8 c)) $$ [HT HO]
  · isplitr; · iexact HR
    isplitl [HT]; · iexact HT
    iexact HO
  iintro ⟨HT, HO⟩
  iapply (wp_dotQ I c true (bk true 8 c) 0) $$ [HT HW]
  · isplitl [HT]; · iexact HT
    iexact HW
  iintro ⟨HT, HW⟩
  iapply (wp_accLast I K c 0 false (m := 24) rfl) $$ [HRv HS HO HF0]
  · isplitr; · iexact HR
    isplitr [HF0]
    · iapply (Entails.of_eq (Ring_eq I c 24 28).symm)
      isplitl [HRv]; · iexact HRv
      isplitl [HS]; · iexact HS
      iexact HO
    iexact HF0
  iintro ⟨HG, HF0⟩
  iapply (wp_accLast I K c 0 true (m := 25) rfl) $$ [HG HT0]
  · isplitr; · iexact HR
    isplitl [HG]; · iexact HG
    iexact HT0
  iintro ⟨HG, HT0⟩
  iapply (wp_dotQ I c false (bk false 8 c) 1) $$ [HF HW]
  · isplitl [HF]; · iexact HF
    iexact HW
  iintro ⟨HF, HW⟩
  iapply (wp_dotQ I c true (bk true 8 c) 1) $$ [HT HW]
  · isplitl [HT]; · iexact HT
    iexact HW
  iintro ⟨HT, HW⟩
  iapply (wp_accLast I K c 1 false (m := 26) rfl) $$ [HG HF1]
  · isplitr; · iexact HR
    isplitl [HG]; · iexact HG
    iexact HF1
  iintro ⟨HG, HF1⟩
  iapply (wp_accLast I K c 1 true (m := 27) rfl) $$ [HG HT1]
  · isplitr; · iexact HR
    isplitl [HG]; · iexact HG
    iexact HT1
  iintro ⟨HG, HT1⟩
  iapply Hk
  isplitl [HF HT HW]
  · isplitl [HF]; · iapply (Xhas_idle I c false _) $$ HF
    isplitl [HT]; · iapply (Xhas_idle I c true _) $$ HT
    iexact HW
  isplitl [HG]; · iexact HG
  isplitl [HF0 HF1]
  · isplitl [HF0]; · iexact HF0
    iexact HF1
  isplitl [HT0]; · iexact HT0
  iexact HT1

end Cert.KernelIdeal.Ringed
-- ==== Proof.Outs.lean ====
/- The second product: the rows of the result put into the staging slots and stored, and the all-gather's steps. -/
module

public import proofs.«01_k».proof.Proof.Steps

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (K : Dev nD × KIx → ℕ) (c : Dev nD)

/-! ## The stores of the result -/

/-- The credit of a store of the result. -/
def NO : ℕ := (ouP 0 false).view.dmaCredit
theorem NO_pos : 0 < NO := View.dmaCredit_pos _ (by decide)

/-- The rows of the result of one direction, the first `n` of its stores done. -/
def Outs (d : Bool) (n : Nat) : sProp 𝕄 :=
  bigSep Finset.univ fun k : Fin 8 =>
    if n ≤ k.val then iprop(∃ Y, own c (ouP (bk d k.val c) d) fullShare Y) else own c (ouP (bk d k.val c) d) fullShare (outV I c (bk d k.val c) d)
/-- A staging slot, with whatever it holds. -/
def Ost (d : Bool) : sProp 𝕄 := iprop(∃ V, own c (ostP (bit d)) fullShare V)
/-- The `k`-th store under way. -/
def OFl (d : Bool) (k : Nat) : sProp 𝕄 := Fl c (.dma (stS (bit d))) NO iprop(Outs I c d (k + 1) ∗ Ost c d)
abbrev zeroS (d : Bool) : sProp 𝕄 := semVal ((c : Thread nD τ), .dma (stS (bit d))) 0
/-- The second weights as they are multiplied. -/
def Wts : sProp 𝕄 := own c w2M fullShare (w2b I c)

theorem Outs_step (d : Bool) (k : Fin 8) :
    Outs I c d k.val ⊢ iprop((∃ Y, own c (ouP (bk d k.val c) d) fullShare Y)
      ∗ (own c (ouP (bk d k.val c) d) fullShare (outV I c (bk d k.val c) d) -∗ Outs I c d (k.val + 1))) := by
  have := bigSep_univ_update (Φ := fun x : Fin 8 =>
      if k.val ≤ x.val then iprop(∃ Y, own c (ouP (bk d x.val c) d) fullShare Y) else own c (ouP (bk d x.val c) d) fullShare (outV I c (bk d x.val c) d))
    (Ψ := fun x : Fin 8 =>
      if k.val + 1 ≤ x.val then iprop(∃ Y, own c (ouP (bk d x.val c) d) fullShare Y) else own c (ouP (bk d x.val c) d) fullShare (outV I c (bk d x.val c) d))
    k (fun x hx => by
      have : x.val ≠ k.val := fun e => hx (Fin.ext e)
      by_cases h1 : k.val ≤ x.val
      · rw [if_pos h1, if_pos (by omega)]
      · rw [if_neg h1, if_neg (by omega)])
  rw [if_pos (le_refl _), if_neg (by omega)] at this
  exact this

theorem wp_stO (d : Bool) (k : Fin 8) {o : Fin 2 → Nat} (h : ∀ a, o a + S512x512.size a ≤ S8192x512.size a) (ho : o = rowOff (bk d k.val c) d) {Q : PUnit → sProp 𝕄} :
    iprop(own c (ostP (bit d)) fullShare (outV I c (bk d k.val c) d) ∗ Outs I c d k.val ∗ zeroS c d)
      ⊢ iprop((OFl I c d k.val -∗ Q ⟨⟩) -∗ WP c (stO d o h) Q) := by
  subst ho
  unfold OFl
  iintro ⟨Hs, HO, Hv⟩ Hk
  ihave HO' := (Outs_step I c d k) $$ HO
  icases HO' with ⟨⟨%Y, HY⟩, Hback⟩
  iapply (wp_copy c (src := ostP (bit d)) (dst := outP (rowOff (bk d k.val c) d) h) NO
    (show (outP (rowOff (bk d k.val c) d) h).view.amount (.dma (stS (bit d))) = NO from rfl) NO_pos) $$ [Hs HY Hv]
  · isplitl [Hs]; · iexact Hs
    isplitl [HY]; · iexact HY
    iexact Hv
  iintro HF
  iapply Hk
  iapply (Fl_mono c)
  isplitl [HF]; · iexact HF
  iintro ⟨Hd, Hs⟩
  isplitl [Hback Hd]
  · iapply Hback
    iapply (Entails.of_eq (show own c (outP (rowOff (bk d k.val c) d) h) fullShare (outV I c (bk d k.val c) d)
      = own c (ouP (bk d k.val c) d) fullShare (outV I c (bk d k.val c) d) from rfl)) $$ Hd
  unfold Ost
  iexists _; iexact Hs

theorem wp_wtO (d : Bool) (k : Nat) {n : Nat} {o : Fin 2 → Nat} (h : ∀ a, o a + S512x512.size a ≤ S8192x512.size a) {Q : PUnit → sProp 𝕄} :
    iprop(Rec I K ∗ OFl I c d k ∗ Ow c n)
      ⊢ iprop(((Outs I c d (k + 1) ∗ Ost c d ∗ zeroS c d ∗ Ow c n) -∗ Q ⟨⟩) -∗ WP c (wtO d o h) Q) := by
  unfold OFl
  iintro ⟨#HR, HF, HO⟩ Hk
  iapply (wp_wait c (n := NO) (show (outP o h).view.dmaCredit = NO from rfl) (by have := bitN_le d; rw [stS_val]; omega)) $$ [HF HO]
  · isplitr; · iapply (Rec_lev I K); iexact HR
    isplitl [HF]; · iexact HF
    iexact HO
  iintro ⟨⟨H1, H2⟩, Hv, HO⟩
  iapply Hk
  isplitl [H1]; · iexact H1
  isplitl [H2]; · iexact H2
  isplitl [Hv]; · iexact Hv
  iexact HO

/-! ## The device's own rows -/

theorem wp_getAgH {o : Fin 2 → Nat} {h : ∀ a, o a + S512x1024.size a ≤ S8192x1024.size a} {k : Fin 8} {d : Bool} (ho : o = rowOff k d)
    {sh : PosShare TreeShare} {X : Vec F S512x1024 .bf16} {hl} {Q : Vec F S512x1024 .bf16 → sProp 𝕄} :
    own c (agM.slice (agRH k d) (fun _ => rfl)) sh X
      ⊢ iprop((own c (agM.slice (agRH k d) (fun _ => rfl)) sh X -∗ Q X)
        -∗ WP c (Prog.lift (.load agM (Rect.unit (s := S8192x1024) o S512x1024.size h).toLoadRect hl)) Q) := by
  subst ho; exact wp_getSlice c (m := agM) (r := agRH k d) (fun _ => rfl)

theorem Mine_eq (d : Bool) : Mine I c d = own c (agM.slice (agRH (bk d 0 c) d) (fun _ => rfl)) fullShare.right (gatH I (bk d 0 c) d) :=
  (own_agH I c (bk d 0 c) d fullShare.right).symm

omit [FloatOps F] in
/-- A staging slot, as the copies name it, is the slice the stores name. -/
theorem own_ostP (d : Fin 2) (V : S512x512.Idx → Elt F .f32) :
    (own c (ostP d) fullShare V : sProp 𝕄) = own c (ostM.slice (ostS d) (fun _ => rfl)) fullShare (shapeCast S1x512x512 V shapeCasts_S512x512_S1x512x512) :=
  own_squeeze c _ squeezes_S1x512x512_S512x512 shapeCasts_S512x512_S1x512x512 shapeCasts_S1x512x512_S512x512 fullShare V

theorem outV_own (d : Bool) : outV I c (bk d 0 c) d = outH I c (bk d 0 c) d := if_pos (dev_bk_zero d c)

theorem wp_halfStep (d : Bool) {Q : PUnit → sProp 𝕄} :
    iprop(Mine I c d ∗ Wts I c ∗ Outs I c d 0 ∗ Ost c d ∗ zeroS c d)
      ⊢ iprop(((Mine I c d ∗ Wts I c ∗ OFl I c d 0) -∗ Q ⟨⟩) -∗ WP c (halfStep c d) Q) := by
  rw [Mine_eq]
  unfold Wts Ost halfStep
  simp only [WP_bind]
  iintro ⟨HM, HW, HO, ⟨%V, HV⟩, Hv⟩ Hk
  iapply (wp_getAgH c (halfOff_eq c d)) $$ HM
  iintro HM
  iapply (wp_getAll c) $$ HW
  iintro HW
  ihave HV' := (Entails.of_eq (own_ostP c (bit d) V)) $$ HV
  iapply (wp_getSlice c (m := ostM) (r := ostS (bit d)) (fun _ => rfl)) $$ HV'
  iintro HV
  iapply (wp_putSlice c (m := ostM) (r := ostS (bit d)) (fun _ => rfl)) $$ HV
  iintro HV
  ihave HV' := (Entails.of_eq (show own c (ostM.slice (ostS (bit d)) (fun _ => rfl)) fullShare (k0_pay63 (gatH I (bk d 0 c) d) (w2b I c))
    = own c (ostP (bit d)) fullShare (outV I c (bk d ((0 : Fin 8) : Nat) c) d) from by
      rw [show outV I c (bk d ((0 : Fin 8) : Nat) c) d = outH I c (bk d 0 c) d from outV_own I c d, own_ostP]; rfl)) $$ HV
  iapply (wp_stO I c d 0 (outC_inb c d 0) (outC_eq c d 0)) $$ [HV' HO Hv]
  · isplitl [HV']; · iexact HV'
    isplitl [HO]; · iexact HO
    iexact Hv
  iintro HF
  iapply Hk
  isplitl [HM]; · iexact HM
  isplitl [HW]; · iexact HW
  iexact HF

/-! ## The rows of the other chunks -/

theorem wp_dotO (t : Fin 7) (q : Fin 2) (d : Bool) (sh : PosShare TreeShare) (Y : Vec F S256x512 .f32) {Q : PUnit → sProp 𝕄} :
    iprop(own c (agP (bk d (t.val + 1) c) d q) sh (gat I (bk d (t.val + 1) c) d q) ∗ Wts I c ∗ ostQ c (bit d) q Y)
      ⊢ iprop(((own c (agP (bk d (t.val + 1) c) d q) sh (gat I (bk d (t.val + 1) c) d q) ∗ Wts I c
          ∗ ostQ c (bit d) q (outQ I c (bk d (t.val + 1) c) d q)) -∗ Q ⟨⟩) -∗ WP c (dotO c t q d) Q) := by
  unfold Wts ostQ dotO
  simp only [WP_bind]
  iintro ⟨HM, HW, HV⟩ Hk
  iapply (wp_getAg c (rdOff_eq c d t q)) $$ HM
  iintro HM
  iapply (wp_getAll c) $$ HW
  iintro HW
  iapply (wp_getSlice c (m := ostM) (r := ostR (bit d) q) (fun _ => rfl)) $$ HV
  iintro HV
  iapply (wp_putSlice c (m := ostM) (r := ostR (bit d) q) (fun _ => rfl)) $$ HV
  iintro HV
  iapply Hk
  isplitl [HM]; · iexact HM
  isplitl [HW]; · iexact HW
  iexact HV

/-- What lands at all-gather step `t`. -/
theorem recvPay_ag (t : Fin 7) (q : Fin 2) (d : Bool) :
    recvPay I c ⟨true, t, q, d⟩ = own c (agP (bk d (t.val + 1) c) d q) fullShare (gat I (bk d (t.val + 1) c) d q) := by
  show own c (agO (frm d c) d t q) fullShare (gat I (bk d t.val (frm d c)) d q) = _
  rw [agO_eq, bk_succ]
theorem sendSrc_ag (t : Fin 6) (q : Fin 2) (d : Bool) :
    own c (agP (bk d (t.castSucc.val + 1) c) d q) fullShare.left (gat I (bk d (t.castSucc.val + 1) c) d q)
      = own c (hopSrc c ⟨true, t.succ, q, d⟩) (shr ⟨true, t.succ, q, d⟩) (hopVal I c ⟨true, t.succ, q, d⟩) := by
  show _ = own c (agO c d t.succ q) fullShare.left (gat I (bk d t.succ.val c) d q)
  rw [agO_eq]; rfl
theorem Kept_ag (t : Fin 6) (q : Fin 2) (d : Bool) :
    Kept I c ⟨true, t.castSucc, q, d⟩ = own c (agP (bk d (t.castSucc.val + 1) c) d q) fullShare.right (gat I (bk d (t.castSucc.val + 1) c) d q) := by
  show own c _ (if t.castSucc = 6 then fullShare else fullShare.right) _ = _
  rw [if_neg (castSucc_ne t)]
theorem Kept_last (q : Fin 2) (d : Bool) : Kept I c ⟨true, 6, q, d⟩ = own c (agP (bk d ((6 : Fin 7).val + 1) c) d q) fullShare (gat I (bk d ((6 : Fin 7).val + 1) c) d q) := rfl

/-- What arrives at a step goes on, half of its share. -/
theorem wp_pass (t : Fin 6) (q : Fin 2) (d : Bool) {m : Nat} (hm : 28 + 4 * t.val + 2 * q.val + bitN d = m) {P : sProp 𝕄} :
    iprop(Rec I K ∗ Ring I c m (m + 4))
      ⊢ iprop(((own c (agP (bk d (t.castSucc.val + 1) c) d q) fullShare.right (gat I (bk d (t.castSucc.val + 1) c) d q)
          ∗ (own c (agP (bk d (t.castSucc.val + 1) c) d q) fullShare.right (gat I (bk d (t.castSucc.val + 1) c) d q) -∗ Recvs I c (m + 1))
          ∗ Sends c (m + 5) ∗ Ow c (m + 5)) -∗ P)
        -∗ WP c (waitR c ⟨true, t.castSucc, q, d⟩) (fun _ => WP c (sendH c ⟨true, t.succ, q, d⟩) fun _ => P)) := by
  unfold Ring
  iintro ⟨#HR, HRv, HS, HO⟩ Hk
  iapply (wp_recv I K c ⟨true, t.castSucc, q, d⟩ (m := m) (n := m + 4) (by rw [num_ag]; exact hm) (by omega)) $$ [HRv HO]
  · isplitr; · iexact HR
    isplitl [HRv]; · iexact HRv
    iexact HO
  iintro ⟨Hp, Hback, HO⟩
  ihave Hp1 := (Entails.of_eq (recvPay_ag I c t.castSucc q d)) $$ Hp
  ihave Hp2 := (own_halves c _ _) $$ Hp1
  icases Hp2 with ⟨HL, Hr⟩
  ihave HL1 := (Entails.of_eq (sendSrc_ag I c t q d)) $$ HL
  iapply (wp_send I K c ⟨true, t.succ, q, d⟩ (n := m + 4) (by rw [num_ag, Fin.val_succ]; omega)) $$ [HS HO HL1]
  · isplitr; · iexact HR
    isplitl [HS]; · iexact HS
    isplitl [HO]; · iexact HO
    iexact HL1
  iintro ⟨HS, HO⟩
  iapply Hk
  isplitl [Hr]; · iexact Hr
  isplitl [Hback]
  · iintro Hr
    iapply Hback
    iapply (Entails.of_eq (Kept_ag I c t q d).symm) $$ Hr
  isplitl [HS]; · iexact HS
  iexact HO

/-- A slot's two quarters, with whatever they hold. -/
theorem Ost_split (d : Bool) : Ost c d ⊢ (iprop((∃ Y, ostQ c (bit d) 0 Y) ∗ (∃ Y, ostQ c (bit d) 1 Y)) : sProp 𝕄) := by
  unfold Ost
  iintro ⟨%V, HV⟩
  ihave H1 := (Entails.of_eq (show own c (ostP (bit d)) fullShare V = own c (ostP (bit d)) fullShare (stack fun q j => V (ix2 ⟨256 * q.val + (j 0).val, by have := idx2_lt0 j; have := q.isLt; omega⟩ (j 1)))
    from congrArg _ (stack_any V))) $$ HV
  ihave H2 := (Entails.of_eq (own_ost c (bit d) _)) $$ H1
  icases H2 with ⟨H1, H2⟩
  isplitl [H1]
  · iexists _; iexact H1
  · iexists _; iexact H2

theorem dev_bk_ne : ∀ (d : Bool) (t : Fin 7) (c : Dev nD), dev (bk d (t.val + 1) c) ≠ c := by decide +kernel
theorem outV_other (d : Bool) (t : Fin 7) : outV I c (bk d (t.val + 1) c) d = stack (outQ I c (bk d (t.val + 1) c) d) := if_neg (dev_bk_ne d t c)

/-- The first quarter of a step. -/
theorem wp_agA (t : Fin 6) (d : Bool) {m : Nat} (hm : 28 + 4 * t.val + bitN d = m) {Q : PUnit → sProp 𝕄} :
    iprop(Rec I K ∗ Ring I c m (m + 4) ∗ Wts I c ∗ OFl I c d t.val)
      ⊢ iprop(((Ring I c (m + 1) (m + 5) ∗ Wts I c ∗ Outs I c d (t.val + 1) ∗ zeroS c d
          ∗ ostQ c (bit d) 0 (outQ I c (bk d (t.val + 1) c) d 0) ∗ (∃ Y, ostQ c (bit d) 1 Y)) -∗ Q ⟨⟩) -∗ WP c (agA c t d) Q) := by
  unfold agA
  simp only [WP_bind]
  iintro ⟨#HR, HG, HW, HF⟩ Hk
  iapply (wp_pass I K c t 0 d (m := m) hm) $$ [HG]
  · isplitr; · iexact HR
    iexact HG
  iintro ⟨Hr, Hback, HS, HO⟩
  iapply (wp_wtO I K c d t.val) $$ [HF HO]
  · isplitr; · iexact HR
    isplitl [HF]; · iexact HF
    iexact HO
  iintro ⟨HOu, Hst, Hv, HO⟩
  ihave Hst' := (Ost_split c d) $$ Hst
  icases Hst' with ⟨⟨%Y, H0⟩, H1⟩
  iapply (wp_dotO I c t.castSucc 0 d fullShare.right Y) $$ [Hr HW H0]
  · isplitl [Hr]; · iexact Hr
    isplitl [HW]; · iexact HW
    iexact H0
  iintro ⟨Hr, HW, H0⟩
  iapply Hk
  isplitl [Hback Hr HS HO]
  · iapply (Entails.of_eq (Ring_eq I c (m + 1) (m + 5)).symm)
    isplitl [Hback Hr]; · iapply Hback $$ Hr
    isplitl [HS]; · iexact HS
    iexact HO
  isplitl [HW]; · iexact HW
  isplitl [HOu]; · iexact HOu
  isplitl [Hv]; · iexact Hv
  isplitl [H0]; · iexact H0
  iexact H1

/-- The second quarter of a step. -/
theorem wp_agB (t : Fin 6) (d : Bool) {m : Nat} (hm : 28 + 4 * t.val + 2 + bitN d = m) {Q : PUnit → sProp 𝕄} :
    iprop(Rec I K ∗ Ring I c m (m + 4) ∗ Wts I c ∗ Outs I c d (t.val + 1) ∗ zeroS c d
          ∗ ostQ c (bit d) 0 (outQ I c (bk d (t.val + 1) c) d 0) ∗ (∃ Y, ostQ c (bit d) 1 Y))
      ⊢ iprop(((Ring I c (m + 1) (m + 5) ∗ Wts I c ∗ OFl I c d (t.val + 1)) -∗ Q ⟨⟩) -∗ WP c (agB c t d) Q) := by
  unfold agB
  simp only [WP_bind]
  iintro ⟨#HR, HG, HW, HOu, Hv, H0, ⟨%Y, H1⟩⟩ Hk
  iapply (wp_pass I K c t 1 d (m := m) hm) $$ [HG]
  · isplitr; · iexact HR
    iexact HG
  iintro ⟨Hr, Hback, HS, HO⟩
  iapply (wp_dotO I c t.castSucc 1 d fullShare.right Y) $$ [Hr HW H1]
  · isplitl [Hr]; · iexact Hr
    isplitl [HW]; · iexact HW
    iexact H1
  iintro ⟨Hr, HW, H1⟩
  ihave Hst := (Entails.of_eq (show iprop(ostQ c (bit d) 0 (outQ I c (bk d (t.castSucc.val + 1) c) d 0) ∗ ostQ c (bit d) 1 (outQ I c (bk d (t.castSucc.val + 1) c) d 1))
    = own c (ostP (bit d)) fullShare (outV I c (bk d t.castSucc.succ.val c) d) from by
      rw [show outV I c (bk d t.castSucc.succ.val c) d = _ from outV_other I c d t.castSucc, own_ost])) $$ [H0 H1]
  · isplitl [H0]; · iexact H0
    iexact H1
  iapply (wp_stO I c d t.castSucc.succ (outC_inb c d _) (outC_eq c d _)) $$ [Hst HOu Hv]
  · isplitl [Hst]; · iexact Hst
    isplitl [HOu]; · iexact HOu
    iexact Hv
  iintro HF
  iapply Hk
  isplitl [Hback Hr HS HO]
  · iapply (Entails.of_eq (Ring_eq I c (m + 1) (m + 5)).symm)
    isplitl [Hback Hr]; · iapply Hback $$ Hr
    isplitl [HS]; · iexact HS
    iexact HO
  isplitl [HW]; · iexact HW
  iexact HF

/-- A step of the all-gather. -/
theorem wp_agStep (t : Fin 6) {Q : PUnit → sProp 𝕄} :
    iprop(Rec I K ∗ Ring I c (28 + 4 * t.val) (28 + 4 * t.val + 4) ∗ Wts I c ∗ OFl I c false t.val ∗ OFl I c true t.val)
      ⊢ iprop(((Ring I c (28 + 4 * t.val + 4) (28 + 4 * t.val + 8) ∗ Wts I c ∗ OFl I c false (t.val + 1) ∗ OFl I c true (t.val + 1)) -∗ Q ⟨⟩)
        -∗ WP c (agStep c t) Q) := by
  unfold agStep
  simp only [WP_bind]
  iintro ⟨#HR, HG, HW, HF, HT⟩ Hk
  iapply (wp_agA I K c t false (m := 28 + 4 * t.val) rfl) $$ [HG HW HF]
  · isplitr; · iexact HR
    isplitl [HG]; · iexact HG
    isplitl [HW]; · iexact HW
    iexact HF
  iintro ⟨HG, HW, HF⟩
  iapply (wp_agA I K c t true (m := 28 + 4 * t.val + 1) rfl) $$ [HG HW HT]
  · isplitr; · iexact HR
    isplitl [HG]; · iexact HG
    isplitl [HW]; · iexact HW
    iexact HT
  iintro ⟨HG, HW, HT⟩
  iapply (wp_agB I K c t false (m := 28 + 4 * t.val + 2) rfl) $$ [HG HW HF]
  · isplitr; · iexact HR
    isplitl [HG]; · iexact HG
    isplitl [HW]; · iexact HW
    iexact HF
  iintro ⟨HG, HW, HF⟩
  iapply (wp_agB I K c t true (m := 28 + 4 * t.val + 3) rfl) $$ [HG HW HT]
  · isplitr; · iexact HR
    isplitl [HG]; · iexact HG
    isplitl [HW]; · iexact HW
    iexact HT
  iintro ⟨HG, HW, HT⟩
  iapply Hk
  isplitl [HG]; · iexact HG
  isplitl [HW]; · iexact HW
  isplitl [HF]; · iexact HF
  iexact HT

/-! ## The last step -/

theorem wp_take (q : Fin 2) (d : Bool) {m : Nat} (hm : 52 + 2 * q.val + bitN d = m) {Q : PUnit → sProp 𝕄} :
    iprop(Rec I K ∗ Ring I c m 56)
      ⊢ iprop(((own c (agP (bk d ((6 : Fin 7).val + 1) c) d q) fullShare (gat I (bk d ((6 : Fin 7).val + 1) c) d q)
          ∗ (own c (agP (bk d ((6 : Fin 7).val + 1) c) d q) fullShare (gat I (bk d ((6 : Fin 7).val + 1) c) d q) -∗ Recvs I c (m + 1))
          ∗ Sends c 56 ∗ Ow c 56) -∗ Q ⟨⟩)
        -∗ WP c (waitR c ⟨true, 6, q, d⟩) Q) := by
  unfold Ring
  iintro ⟨#HR, HRv, HS, HO⟩ Hk
  iapply (wp_recv I K c ⟨true, 6, q, d⟩ (m := m) (n := 56) (by rw [num_ag]; exact hm) (by have := bitN_le d; have := q.isLt; omega)) $$ [HRv HO]
  · isplitr; · iexact HR
    isplitl [HRv]; · iexact HRv
    iexact HO
  iintro ⟨Hp, Hback, HO⟩
  ihave Hp1 := (Entails.of_eq (recvPay_ag I c 6 q d)) $$ Hp
  iapply Hk
  isplitl [Hp1]; · iexact Hp1
  isplitl [Hback]
  · iintro Hr
    iapply Hback
    iapply (Entails.of_eq (Kept_last I c q d).symm) $$ Hr
  isplitl [HS]; · iexact HS
  iexact HO

theorem wp_agA' (d : Bool) {m : Nat} (hm : 52 + bitN d = m) {Q : PUnit → sProp 𝕄} :
    iprop(Rec I K ∗ Ring I c m 56 ∗ Wts I c ∗ OFl I c d 6)
      ⊢ iprop(((Ring I c (m + 1) 56 ∗ Wts I c ∗ Outs I c d 7 ∗ zeroS c d
          ∗ ostQ c (bit d) 0 (outQ I c (bk d 7 c) d 0) ∗ (∃ Y, ostQ c (bit d) 1 Y)) -∗ Q ⟨⟩) -∗ WP c (agA' c d) Q) := by
  unfold agA'
  simp only [WP_bind]
  iintro ⟨#HR, HG, HW, HF⟩ Hk
  iapply (wp_take I K c 0 d (m := m) hm) $$ [HG]
  · isplitr; · iexact HR
    iexact HG
  iintro ⟨Hr, Hback, HS, HO⟩
  iapply (wp_wtO I K c d 6) $$ [HF HO]
  · isplitr; · iexact HR
    isplitl [HF]; · iexact HF
    iexact HO
  iintro ⟨HOu, Hst, Hv, HO⟩
  ihave Hst' := (Ost_split c d) $$ Hst
  icases Hst' with ⟨⟨%Y, H0⟩, H1⟩
  iapply (wp_dotO I c 6 0 d fullShare Y) $$ [Hr HW H0]
  · isplitl [Hr]; · iexact Hr
    isplitl [HW]; · iexact HW
    iexact H0
  iintro ⟨Hr, HW, H0⟩
  iapply Hk
  isplitl [Hback Hr HS HO]
  · iapply (Entails.of_eq (Ring_eq I c (m + 1) 56).symm)
    isplitl [Hback Hr]; · iapply Hback $$ Hr
    isplitl [HS]; · iexact HS
    iexact HO
  isplitl [HW]; · iexact HW
  isplitl [HOu]; · iexact HOu
  isplitl [Hv]; · iexact Hv
  isplitl [H0]; · iexact H0
  iexact H1

theorem wp_agB' (d : Bool) {m : Nat} (hm : 54 + bitN d = m) {Q : PUnit → sProp 𝕄} :
    iprop(Rec I K ∗ Ring I c m 56 ∗ Wts I c ∗ Outs I c d 7 ∗ zeroS c d
          ∗ ostQ c (bit d) 0 (outQ I c (bk d 7 c) d 0) ∗ (∃ Y, ostQ c (bit d) 1 Y))
      ⊢ iprop(((Ring I c (m + 1) 56 ∗ Wts I c ∗ OFl I c d 7) -∗ Q ⟨⟩) -∗ WP c (agB' c d) Q) := by
  unfold agB'
  simp only [WP_bind]
  iintro ⟨#HR, HG, HW, HOu, Hv, H0, ⟨%Y, H1⟩⟩ Hk
  iapply (wp_take I K c 1 d (m := m) hm) $$ [HG]
  · isplitr; · iexact HR
    iexact HG
  iintro ⟨Hr, Hback, HS, HO⟩
  iapply (wp_dotO I c 6 1 d fullShare Y) $$ [Hr HW H1]
  · isplitl [Hr]; · iexact Hr
    isplitl [HW]; · iexact HW
    iexact H1
  iintro ⟨Hr, HW, H1⟩
  ihave Hst := (Entails.of_eq (show iprop(ostQ c (bit d) 0 (outQ I c (bk d 7 c) d 0) ∗ ostQ c (bit d) 1 (outQ I c (bk d 7 c) d 1))
    = own c (ostP (bit d)) fullShare (outV I c (bk d ((6 : Fin 7).succ : Fin 8).val c) d) from by
      rw [show outV I c (bk d ((6 : Fin 7).succ : Fin 8).val c) d = _ from outV_other I c d 6, own_ost]; rfl)) $$ [H0 H1]
  · isplitl [H0]; · iexact H0
    iexact H1
  iapply (wp_stO I c d (6 : Fin 7).succ (outC_inb c d _) (outC_eq c d _)) $$ [Hst HOu Hv]
  · isplitl [Hst]; · iexact Hst
    isplitl [HOu]; · iexact HOu
    iexact Hv
  iintro HF
  iapply Hk
  isplitl [Hback Hr HS HO]
  · iapply (Entails.of_eq (Ring_eq I c (m + 1) 56).symm)
    isplitl [Hback Hr]; · iapply Hback $$ Hr
    isplitl [HS]; · iexact HS
    iexact HO
  isplitl [HW]; · iexact HW
  iexact HF

/-- The last step of the all-gather. -/
theorem wp_agStep' {Q : PUnit → sProp 𝕄} :
    iprop(Rec I K ∗ Ring I c 52 56 ∗ Wts I c ∗ OFl I c false 6 ∗ OFl I c true 6)
      ⊢ iprop(((Ring I c 56 56 ∗ Wts I c ∗ OFl I c false 7 ∗ OFl I c true 7) -∗ Q ⟨⟩) -∗ WP c (agStep' c) Q) := by
  unfold agStep'
  simp only [WP_bind]
  iintro ⟨#HR, HG, HW, HF, HT⟩ Hk
  iapply (wp_agA' I K c false (m := 52) rfl) $$ [HG HW HF]
  · isplitr; · iexact HR
    isplitl [HG]; · iexact HG
    isplitl [HW]; · iexact HW
    iexact HF
  iintro ⟨HG, HW, HF⟩
  iapply (wp_agA' I K c true (m := 53) rfl) $$ [HG HW HT]
  · isplitr; · iexact HR
    isplitl [HG]; · iexact HG
    isplitl [HW]; · iexact HW
    iexact HT
  iintro ⟨HG, HW, HT⟩
  iapply (wp_agB' I K c false (m := 54) rfl) $$ [HG HW HF]
  · isplitr; · iexact HR
    isplitl [HG]; · iexact HG
    isplitl [HW]; · iexact HW
    iexact HF
  iintro ⟨HG, HW, HF⟩
  iapply (wp_agB' I K c true (m := 55) rfl) $$ [HG HW HT]
  · isplitr; · iexact HR
    isplitl [HG]; · iexact HG
    isplitl [HW]; · iexact HW
    iexact HT
  iintro ⟨HG, HW, HT⟩
  iapply Hk
  isplitl [HG]; · iexact HG
  isplitl [HW]; · iexact HW
  isplitl [HF]; · iexact HF
  iexact HT

end Cert.KernelIdeal.Ringed
-- ==== Proof.Run.lean ====
/- The whole body: the prologue with its handshake, the steps in order, the waits at the end. -/
module

public import proofs.«01_k».proof.Proof.Outs

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (K : Dev nD × KIx → ℕ) (c : Dev nD)

/-! ## The handshake -/

/-- A signal to the neighbour at the back of direction `d`'s stream, with the rows of this device in which that direction's hops land. -/
theorem wp_sig (d : Bool) (e : Dev nD) (O : CellTallies nD τ sig Unit) {W} {Q : PUnit → sProp 𝕄} :
    iprop(Rec I K ∗ owes (c : Thread nD τ) (O + tallyAt (barCell e) () 1) W ∗ dutyTok ER (barCell e) 0 d ∗ barPay e d)
      ⊢ iprop((owes (c : Thread nD τ) O W -∗ Q ⟨⟩) -∗ WP c (semSignalWord e barS 1#32) Q) := by
  simp only [semSignalWord]
  iintro ⟨#HR, HO, Ht, Hp⟩ Hk
  iapply (Rounds.wp_signal 𝒱₀ ER (ringRd I) (c : Thread nD τ) none (dst := (e : Thread nD τ)) (κ := K (e, none))
      (d := d) (r := 0) (by show _ ∈ (ringRd I).duties (barCell e) 0; rw [duties_cell]; exact Finset.mem_univ _)
      ((amount_cell I e none d).trans (by decide)) () O rfl) $$ [HO Ht Hp]
  · isplitr; · iapply (Rec_inv I K (e, none)); iexact HR
    isplitl [HO]; · iexact HO
    isplitl [Ht]; · iexact Ht
    isplitl [Hp]
    · iapply (Entails.of_eq (show (ringRd I).payload ((e : Thread nD τ), SemLoc.reg barS) 0 d = barPay e d from payload_cell I e none d).symm) $$ Hp
    iapply (Rec_reached I K (e, none)); iexact HR
  iintro HO
  iapply wp_end
  iapply Hk $$ HO

theorem lv_bar' : lv (barCell c) () = 1 := by rw [lv_cell]; rfl

/-- The wait for both neighbours. -/
theorem wp_bar {Q : PUnit → sProp 𝕄} :
    iprop(Rec I K ∗ Ow c 0 ∗ cred (tallyAt (barCell c) () 2) ∗ atPos ER (barCell c) 0 ∅ 0)
      ⊢ iprop(((Ow c 0 ∗ semVal (barCell c) 0 ∗ barPay c false ∗ barPay c true) -∗ Q ⟨⟩) -∗ WP c (semWaitWord barS 2#32) Q) := by
  simp only [semWaitWord]
  unfold Ow
  iintro ⟨#HR, ⟨%W, HO⟩, Hc, Hat⟩ Hk
  iapply (Rounds.wp_wait_rest_token 𝒱₀ ER (ringRd I) (c : Thread nD τ) none (κ := K (c, none))
      (wpE_semWait_eq 𝒱₀ (c : Thread nD τ) none Set.univ) (Set.mem_univ _) () (O := owe c 0) (W := W) (R := 0) (m := 0) (T := ∅)
      (by show _ = (ringRd I).expect (barCell c) 0; rw [expect_bar]; decide)) $$ [Hc HO Hat]
  · isplitr; · iapply (Rec_inv I K (c, none)); iexact HR
    isplitl [Hc]; · iexact Hc
    isplitl [HO]; · iexact HO
    isplitr
    · iapply (mayWait_owe c (.reg barS) 0 (by have := lv_bar' c; show lv (barCell c) () < _; omega)); iapply (Rec_lev I K); iexact HR
    iexact Hat
  iintro ⟨HO, Hat, -, Hpay⟩
  ihave Hp := (Entails.of_eq (show bigSep ((ringRd I).duties ((c : Thread nD τ), SemLoc.reg barS) 0 \ ∅)
      (fun d => (ringRd I).payload ((c : Thread nD τ), SemLoc.reg barS) 0 d) = _ from rest_bar I c)) $$ Hpay
  icases Hp with ⟨H1, H2⟩
  imod (Rounds.cell_close ER (ringRd I) (Set.mem_univ (K (c, none))) (fun h => h) (R := 0 + 1) (duties_later I (barCell c))) $$ [Hat] with Hz
  · isplitr; · iapply (Rec_inv I K (c, none)); iexact HR
    iexact Hat
  iapply wp_end
  iapply Hk
  isplitl [HO]; · iexists _; iexact HO
  isplitl [Hz]; · iexact Hz
  isplitl [H1]; · iexact H1
  iexact H2

/-- Of a hop before the handshake: everything but the rows it lands in. -/
def Pre0 (h : Hop) : sProp 𝕄 := iprop(dutyTok ER (sendCell c h) 0 false ∗ dutyTok ER (recvCell (tgt h.d c) h) 0 false ∗ atPos ER (sendCell c h) 0 ∅ 0)

omit [FloatOps F] in
/-- What of hops goes by direction. -/
theorem by_dir (Φ : Hop → sProp 𝕄) :
    bigSep Finset.univ Φ = iprop(bigSep (Finset.univ.filter fun h : Hop => h.d = false) Φ ∗ bigSep (Finset.univ.filter fun h : Hop => h.d = true) Φ) := by
  rw [bigSep_filter_split Finset.univ (fun h : Hop => h.d = false)]
  simp
  rfl

omit [FloatOps F] in
theorem sep_assoc4 (A B C D : sProp 𝕄) : iprop(A ∗ B ∗ C ∗ D) = iprop((A ∗ B ∗ C) ∗ D) := by
  have h1 : iprop(A ∗ B ∗ C ∗ D) ⊢ iprop((A ∗ B ∗ C) ∗ D) := by
    iintro ⟨H1, H2, H3, H4⟩
    isplitr [H4]
    · isplitl [H1]; · iexact H1
      isplitl [H2]; · iexact H2
      iexact H3
    iexact H4
  have h2 : iprop((A ∗ B ∗ C) ∗ D) ⊢ iprop(A ∗ B ∗ C ∗ D) := by
    iintro ⟨⟨H1, H2, H3⟩, H4⟩
    isplitl [H1]; · iexact H1
    isplitl [H2]; · iexact H2
    isplitl [H3]; · iexact H3
    iexact H4
  exact Entails.antisymm h1 h2

/-- With the neighbours' rows all hops can be started. -/
theorem Sends_zero : iprop(bigSep Finset.univ (fun h => Pre0 (F := F) c h) ∗ barPay c false ∗ barPay c true) ⊢ (Sends c 0 : sProp 𝕄) := by
  have e : (Sends c 0 : sProp 𝕄) = iprop(bigSep Finset.univ (fun h => Pre0 (F := F) c h) ∗ bigSep Finset.univ (fun h => landing (F := F) c h)) := by
    unfold Sends
    rw [← bigSep_sep']
    refine bigSep_congr fun h _ => ?_
    rw [if_pos (Nat.zero_le _)]
    unfold Pre Pre0
    exact sep_assoc4 _ _ _ _
  rw [e, by_dir (fun h => landing (F := F) c h)]
  unfold barPay
  exact Entails.refl _

/-! ## The prologue -/

/-- What the device brings to the handshake, and its debts. -/
def Hand : sProp 𝕄 :=
  iprop((∃ W, owes (c : Thread nD τ) (owe₀ c) W) ∗ bigSep Finset.univ (fun h => Pre0 c h) ∗ atPos ER (barCell c) 0 ∅ 0 ∗ cred (tallyAt (barCell c) () 2)
    ∗ dutyTok ER (barCell (tgt true c)) 0 false ∗ dutyTok ER (barCell (tgt false c)) 0 true ∗ barPay (tgt true c) false ∗ barPay (tgt false c) true)
/-- The slots the first products are sent from. -/
def Slot7 : sProp 𝕄 :=
  iprop((∃ V, own c (rsP false 7 0) fullShare V) ∗ (∃ V, own c (rsP true 7 0) fullShare V) ∗ (∃ V, own c (rsP false 7 1) fullShare V) ∗ (∃ V, own c (rsP true 7 1) fullShare V))

theorem wp_prologue (a1 : Memref sig .tc .vmem S1024x1024 .f32) (a2 : Memref sig .tc .vmem S1024x512 .f32) {Q : PUnit → sProp 𝕄} :
    iprop(Rec I K ∗ Xidle I c false ∗ Xidle I c true ∗ (∃ V, own c w1M fullShare V) ∗ (∃ V, own c w2M fullShare V)
        ∗ own c a1 fullShare (I.w1 c) ∗ own c a2 fullShare (I.w2 c) ∗ Hand c ∗ Slot7 c ∗ Recvs I c 0)
      ⊢ iprop(((Acts I c ∗ Wts I c ∗ own c a1 fullShare (I.w1 c) ∗ own c a2 fullShare (I.w2 c) ∗ semVal (barCell c) 0 ∗ Ring I c 0 4) -∗ Q ⟨⟩)
        -∗ WP c (prologue a1 a2 c) Q) := by
  unfold Acts Wts Hand Slot7 prologue
  rw [dev1_tgt, dev2_tgt]
  simp only [WP_bind]
  iintro ⟨#HR, HF, HT, ⟨%V1, HW1⟩, ⟨%V2, HW2⟩, Ha1, Ha2, ⟨⟨%W, HO⟩, HPre, Hat, Hc, Ht1, Ht2, Hp1, Hp2⟩, ⟨Hs1, Hs2, Hs3, Hs4⟩, HRv⟩ Hk
  iapply (wp_ldX I c false (bk false 1 c) _ (xOff0_eq c false)) $$ HF
  iintro HF
  iapply (wp_ldX I c true (bk true 1 c) _ (xOff0_eq c true)) $$ HT
  iintro HT
  iapply (wp_getAll c) $$ Ha1
  iintro Ha1
  iapply (wp_getAll c) $$ HW1
  iintro HW1
  iapply (wp_putAll c) $$ HW1
  iintro HW1
  iapply (wp_getAll c) $$ Ha2
  iintro Ha2
  iapply (wp_getAll c) $$ HW2
  iintro HW2
  iapply (wp_putAll c) $$ HW2
  iintro HW2
  iapply (wp_sig I K c false (tgt true c) (owe₁ c)) $$ [HO Ht1 Hp1]
  · isplitr; · iexact HR
    isplitl [HO]; · iexact HO
    isplitl [Ht1]; · iexact Ht1
    iexact Hp1
  iintro HO
  iapply (wp_sig I K c true (tgt false c) (owe c 0)) $$ [HO Ht2 Hp2]
  · isplitr; · iexact HR
    isplitl [HO]; · iexact HO
    isplitl [Ht2]; · iexact Ht2
    iexact Hp2
  iintro HO
  iapply (wp_bar I K c) $$ [HO Hc Hat]
  · isplitr; · iexact HR
    isplitl [HO]; · unfold Ow; iexists _; iexact HO
    isplitl [Hc]; · iexact Hc
    iexact Hat
  iintro ⟨HO, Hz, Hq1, Hq2⟩
  ihave HS := (Sends_zero c) $$ [HPre Hq1 Hq2]
  · isplitl [HPre]; · iexact HPre
    isplitl [Hq1]; · iexact Hq1
    iexact Hq2
  iapply (wp_wtX I K c false (bk false 1 c)) $$ [HF HO]
  · isplitr; · iexact HR
    isplitl [HF]; · iexact HF
    iexact HO
  iintro ⟨HF, HO⟩
  ihave HW1' := (Entails.of_eq (show own c w1M fullShare (k0_pay1 (I.w1 c)) = own c w1M fullShare (w1b I c) from rfl)) $$ HW1
  iapply (wp_first I K c 0 false (n := 0) rfl) $$ [HRv HS HO HF HW1' Hs1]
  · isplitr; · iexact HR
    isplitl [HRv HS HO]
    · iapply (Entails.of_eq (Ring_eq I c 0 0).symm)
      isplitl [HRv]; · iexact HRv
      isplitl [HS]; · iexact HS
      iexact HO
    isplitl [HF]; · iexact HF
    isplitl [HW1']; · iexact HW1'
    iexact Hs1
  iintro ⟨HG, HF, HW1⟩
  ihave HG' := (Entails.of_eq (Ring_eq I c 0 1)) $$ HG
  icases HG' with ⟨HRv, HS, HO⟩
  iapply (wp_wtX I K c true (bk true 1 c)) $$ [HT HO]
  · isplitr; · iexact HR
    isplitl [HT]; · iexact HT
    iexact HO
  iintro ⟨HT, HO⟩
  iapply (wp_first I K c 0 true (n := 1) rfl) $$ [HRv HS HO HT HW1 Hs2]
  · isplitr; · iexact HR
    isplitl [HRv HS HO]
    · iapply (Entails.of_eq (Ring_eq I c 0 1).symm)
      isplitl [HRv]; · iexact HRv
      isplitl [HS]; · iexact HS
      iexact HO
    isplitl [HT]; · iexact HT
    isplitl [HW1]; · iexact HW1
    iexact Hs2
  iintro ⟨HG, HT, HW1⟩
  iapply (wp_first I K c 1 false (n := 2) rfl) $$ [HG HF HW1 Hs3]
  · isplitr; · iexact HR
    isplitl [HG]; · iexact HG
    isplitl [HF]; · iexact HF
    isplitl [HW1]; · iexact HW1
    iexact Hs3
  iintro ⟨HG, HF, HW1⟩
  iapply (wp_first I K c 1 true (n := 3) rfl) $$ [HG HT HW1 Hs4]
  · isplitr; · iexact HR
    isplitl [HG]; · iexact HG
    isplitl [HT]; · iexact HT
    isplitl [HW1]; · iexact HW1
    iexact Hs4
  iintro ⟨HG, HT, HW1⟩
  iapply Hk
  isplitl [HF HT HW1]
  · isplitl [HF]; · iapply (Xhas_idle I c false _) $$ HF
    isplitl [HT]; · iapply (Xhas_idle I c true _) $$ HT
    iexact HW1
  isplitl [HW2]; · iexact HW2
  isplitl [Ha1]; · iexact Ha1
  isplitl [Ha2]; · iexact Ha2
  isplitl [Hz]; · iexact Hz
  iexact HG

/-! ## Many steps -/

/-- Steps that each lead from one number to the next. -/
theorem wp_steps (R : Nat → sProp 𝕄) : ∀ (n i₀ : Nat) (f : Fin n → Pg F PUnit),
    (∀ (i : Fin n) (Q : PUnit → sProp 𝕄), iprop(Rec I K ∗ R (i₀ + i.val)) ⊢ iprop((R (i₀ + i.val + 1) -∗ Q ⟨⟩) -∗ WP c (f i) Q)) →
    ∀ Q : PUnit → sProp 𝕄, iprop(Rec I K ∗ R i₀) ⊢ iprop((R (i₀ + n) -∗ Q ⟨⟩) -∗ WP c (steps n f) Q)
  | 0, i₀, f, _, Q => by
    unfold steps
    iintro ⟨-, H⟩ Hk
    iapply (WP_pure c)
    iapply Hk $$ H
  | n + 1, i₀, f, hf, Q => by
    unfold steps
    simp only [WP_bind]
    have h0 : ∀ Q : PUnit → sProp 𝕄, iprop(Rec I K ∗ R i₀) ⊢ iprop((R (i₀ + 1) -∗ Q ⟨⟩) -∗ WP c (f 0) Q) := hf 0
    have ih := wp_steps R n (i₀ + 1) (fun i => f i.succ) (fun i Q => by
      have := hf i.succ Q
      rw [Fin.val_succ, show i₀ + (i.val + 1) = i₀ + 1 + i.val from by omega] at this
      exact this) Q
    rw [show i₀ + 1 + n = i₀ + (n + 1) from by omega] at ih
    iintro ⟨#HR, H⟩ Hk
    iapply (h0 _) $$ [H]
    · isplitr; · iexact HR
      iexact H
    iintro H
    iapply ih $$ [H]
    · isplitr; · iexact HR
      iexact H
    iexact Hk

/-- The waits of one step's hops. -/
theorem wp_waitsS (ph : Bool) (s : Fin 7) {n : Nat} (hn : 28 * bitN ph + 4 * s.val = n) {Q : PUnit → sProp 𝕄} :
    iprop(Rec I K ∗ Backs I c n ∗ Ow c 56) ⊢ iprop(((Backs I c (n + 4) ∗ Ow c 56) -∗ Q ⟨⟩) -∗ WP c (waitsS c ph s) Q) := by
  have num_eq : ∀ (q : Fin 2) (d : Bool), num ⟨ph, s, q, d⟩ = n + 2 * q.val + bitN d := by
    intro q d
    unfold num
    show ((bitN ph * 7 + s.val) * 2 + q.val) * 2 + bitN d = _
    omega
  unfold waitsS
  simp only [WP_bind]
  iintro ⟨#HR, HB, HO⟩ Hk
  iapply (wp_back I K c ⟨ph, s, 0, false⟩ (m := n) (num_eq 0 false)) $$ [HB HO]
  · isplitr; · iexact HR
    isplitl [HB]; · iexact HB
    iexact HO
  iintro ⟨HB, HO⟩
  iapply (wp_back I K c ⟨ph, s, 0, true⟩ (m := n + 1) (num_eq 0 true)) $$ [HB HO]
  · isplitr; · iexact HR
    isplitl [HB]; · iexact HB
    iexact HO
  iintro ⟨HB, HO⟩
  iapply (wp_back I K c ⟨ph, s, 1, false⟩ (m := n + 2) (num_eq 1 false)) $$ [HB HO]
  · isplitr; · iexact HR
    isplitl [HB]; · iexact HB
    iexact HO
  iintro ⟨HB, HO⟩
  iapply (wp_back I K c ⟨ph, s, 1, true⟩ (m := n + 3) (num_eq 1 true)) $$ [HB HO]
  · isplitr; · iexact HR
    isplitl [HB]; · iexact HB
    iexact HO
  iintro ⟨HB, HO⟩
  iapply Hk
  isplitl [HB]; · iexact HB
  iexact HO

/-- The stages of the three loops. -/
def RsAt (i : Nat) : sProp 𝕄 := iprop(Acts I c ∗ Ring I c (4 * i) (4 * i + 4))
def AgAt (i : Nat) : sProp 𝕄 := iprop(Ring I c (28 + 4 * i) (28 + 4 * i + 4) ∗ Wts I c ∗ OFl I c false i ∗ OFl I c true i)
def BackAt (n i : Nat) : sProp 𝕄 := iprop(Backs I c (n + 4 * i) ∗ Ow c 56)

theorem wp_rs6 {Q : PUnit → sProp 𝕄} : iprop(Rec I K ∗ Acts I c ∗ Ring I c 0 4) ⊢ iprop(((Acts I c ∗ Ring I c 24 28) -∗ Q ⟨⟩) -∗ WP c (steps 6 (rsStep c)) Q) :=
  wp_steps I K c (RsAt I c) 6 0 (rsStep c) (fun i Q => by
    rw [Nat.zero_add]
    unfold RsAt
    exact wp_rsStep I K c i) Q
theorem wp_ag6 {Q : PUnit → sProp 𝕄} : iprop(Rec I K ∗ Ring I c 28 32 ∗ Wts I c ∗ OFl I c false 0 ∗ OFl I c true 0)
    ⊢ iprop(((Ring I c 52 56 ∗ Wts I c ∗ OFl I c false 6 ∗ OFl I c true 6) -∗ Q ⟨⟩) -∗ WP c (steps 6 (agStep c)) Q) :=
  wp_steps I K c (AgAt I c) 6 0 (agStep c) (fun i Q => by
    rw [Nat.zero_add]
    unfold AgAt
    exact wp_agStep I K c i) Q
theorem wp_waits7 (ph : Bool) {n : Nat} (hn : 28 * bitN ph = n) {Q : PUnit → sProp 𝕄} :
    iprop(Rec I K ∗ Backs I c n ∗ Ow c 56) ⊢ iprop(((Backs I c (n + 28) ∗ Ow c 56) -∗ Q ⟨⟩) -∗ WP c (steps 7 (waitsS c ph)) Q) :=
  wp_steps I K c (BackAt I c n) 7 0 (waitsS c ph) (fun i Q => by
    rw [Nat.zero_add]
    unfold BackAt
    exact wp_waitsS I K c ph i (by omega)) Q

/-! ## The body -/

/-- What the device holds besides, before and after: its own chunk's rows, the result's, the staging slots. -/
def Mid (m : sProp 𝕄) (n : Nat) : sProp 𝕄 :=
  iprop(m ∗ (Outs I c false n ∗ Outs I c true n) ∗ (Ost c false ∗ Ost c true) ∗ zeroS c false ∗ zeroS c true)
def Ends : sProp 𝕄 := iprop(Recvs I c 56 ∗ Backs I c 56 ∗ Ow c 56 ∗ semVal (barCell c) 0)

theorem wp_ring (a1 : Memref sig .tc .vmem S1024x1024 .f32) (a2 : Memref sig .tc .vmem S1024x512 .f32) {Q : PUnit → sProp 𝕄} :
    iprop(Rec I K ∗ (Xidle I c false ∗ Xidle I c true ∗ (∃ V, own c w1M fullShare V) ∗ (∃ V, own c w2M fullShare V)
        ∗ own c a1 fullShare (I.w1 c) ∗ own c a2 fullShare (I.w2 c) ∗ Hand c ∗ Slot7 c ∗ Recvs I c 0) ∗ Mid I c iprop(MineAny c false ∗ MineAny c true) 0)
      ⊢ iprop(((Acts I c ∗ Wts I c ∗ own c a1 fullShare (I.w1 c) ∗ own c a2 fullShare (I.w2 c) ∗ Mid I c iprop(Mine I c false ∗ Mine I c true) 8 ∗ Ends I c) -∗ Q ⟨⟩)
        -∗ WP c (ring a1 a2 c) Q) := by
  unfold Mid Ends ring
  simp only [WP_bind]
  iintro ⟨#HR, HP, ⟨⟨HM0, HM1⟩, ⟨HO0, HO1⟩, ⟨Hs0, Hs1⟩, Hv0, Hv1⟩⟩ Hk
  iapply (wp_prologue I K c a1 a2) $$ [HP]
  · isplitr; · iexact HR
    iexact HP
  iintro ⟨HA, HW, Ha1, Ha2, Hz, HG⟩
  iapply (wp_rs6 I K c) $$ [HA HG]
  · isplitr; · iexact HR
    isplitl [HA]; · iexact HA
    iexact HG
  iintro ⟨HA, HG⟩
  iapply (wp_lastStep I K c) $$ [HA HG HM0 HM1]
  · isplitr; · iexact HR
    isplitl [HA]; · iexact HA
    isplitl [HG]; · iexact HG
    isplitl [HM0]; · iexact HM0
    iexact HM1
  iintro ⟨HA, HG, HM0, HM1⟩
  iapply (wp_halfStep I c false) $$ [HM0 HW HO0 Hs0 Hv0]
  · isplitl [HM0]; · iexact HM0
    isplitl [HW]; · iexact HW
    isplitl [HO0]; · iexact HO0
    isplitl [Hs0]; · iexact Hs0
    iexact Hv0
  iintro ⟨HM0, HW, HF0⟩
  iapply (wp_halfStep I c true) $$ [HM1 HW HO1 Hs1 Hv1]
  · isplitl [HM1]; · iexact HM1
    isplitl [HW]; · iexact HW
    isplitl [HO1]; · iexact HO1
    isplitl [Hs1]; · iexact Hs1
    iexact Hv1
  iintro ⟨HM1, HW, HF1⟩
  iapply (wp_ag6 I K c) $$ [HG HW HF0 HF1]
  · isplitr; · iexact HR
    isplitl [HG]; · iexact HG
    isplitl [HW]; · iexact HW
    isplitl [HF0]; · iexact HF0
    iexact HF1
  iintro ⟨HG, HW, HF0, HF1⟩
  iapply (wp_agStep' I K c) $$ [HG HW HF0 HF1]
  · isplitr; · iexact HR
    isplitl [HG]; · iexact HG
    isplitl [HW]; · iexact HW
    isplitl [HF0]; · iexact HF0
    iexact HF1
  iintro ⟨HG, HW, HF0, HF1⟩
  ihave HG' := (Entails.of_eq (Ring_eq I c 56 56)) $$ HG
  icases HG' with ⟨HRv, HS, HO⟩
  iapply (wp_wtO I K c false 7) $$ [HF0 HO]
  · isplitr; · iexact HR
    isplitl [HF0]; · iexact HF0
    iexact HO
  iintro ⟨HO0, Hs0, Hv0, HO⟩
  iapply (wp_wtO I K c true 7) $$ [HF1 HO]
  · isplitr; · iexact HR
    isplitl [HF1]; · iexact HF1
    iexact HO
  iintro ⟨HO1, Hs1, Hv1, HO⟩
  ihave HB := (Sends_all I c) $$ HS
  iapply (wp_waits7 I K c false (n := 0) rfl) $$ [HB HO]
  · isplitr; · iexact HR
    isplitl [HB]; · iexact HB
    iexact HO
  iintro ⟨HB, HO⟩
  iapply (wp_waits7 I K c true (n := 28) rfl) $$ [HB HO]
  · isplitr; · iexact HR
    isplitl [HB]; · iexact HB
    iexact HO
  iintro ⟨HB, HO⟩
  iapply Hk
  isplitl [HA]; · iexact HA
  isplitl [HW]; · iexact HW
  isplitl [Ha1]; · iexact Ha1
  isplitl [Ha2]; · iexact Ha2
  isplitr [HRv HB HO Hz]
  · isplitl [HM0 HM1]
    · isplitl [HM0]; · iexact HM0
      iexact HM1
    isplitl [HO0 HO1]
    · isplitl [HO0]; · iexact HO0
      iexact HO1
    isplitl [Hs0 Hs1]
    · isplitl [Hs0]; · iexact Hs0
      iexact Hs1
    isplitl [Hv0]; · iexact Hv0
    iexact Hv1
  isplitl [HRv]; · iexact HRv
  isplitl [HB]; · iexact HB
  isplitl [HO]; · iexact HO
  iexact Hz

end Cert.KernelIdeal.Ringed
-- ==== Proof.Bufs.lean ====
/- Whole buffers as the pieces the ring moves, and back: what the pieces hold does not matter except in the result. -/
module

public import proofs.«01_k».proof.Proof.Run

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (c : Dev nD)

/-- A memref held, whatever it holds. -/
abbrev Any {sp : Space} {sh : Shape} {e : EltTy} (m : Memref sig .tc sp sh e) : sProp 𝕄 := iprop(∃ V, own c m fullShare V)

section General
variable {b : Ref sig .tc} {T : Type} [Fintype T] [DecidableEq T] (r : T → Rect b.ty.shape) (hr : ∀ t a, (r t).stride a = 1)
  (hd : ∀ t t', t ≠ t' → Disjoint (r t).set (r t').set) (hcov : ∀ i, ∃ t, i ∈ (r t).set)
include hd hcov

omit [FloatOps F] [Fintype T] [DecidableEq T] hd in
theorem cover [Fintype T] : (Finset.univ : Finset T).biUnion (fun t => (r t).set) = Finset.univ :=
  Finset.eq_univ_iff_forall.2 fun i => by obtain ⟨t, h⟩ := hcov i; exact Finset.mem_biUnion.2 ⟨t, Finset.mem_univ _, h⟩

omit [FloatOps F] in
/-- A whole buffer is the rectangles of a family that covers it without overlap. -/
theorem any_split : Any (F := F) c (Memref.whole b) ⊢ (bigSep Finset.univ fun t => Any c ((Memref.whole b).slice (r t) (hr t)) : sProp 𝕄) := by
  have h1 : ∀ (V : b.ty.shape.Idx → Elt F b.ty.elt) (t : T), own c ((Memref.whole b).slice (r t) (hr t)) fullShare (fun j => V ((r t).emb j))
      ⊢ (Any c ((Memref.whole b).slice (r t) (hr t)) : sProp 𝕄) := fun V t => by iintro H; iexists _; iexact H
  iintro ⟨%V, H⟩
  ihave H' := (owns_rects (c : Thread nD τ) (Memref.whole b) fullShare r hr hd (cover r hcov) V) $$ H
  iapply (show bigSep Finset.univ (fun t => owns (c : Thread nD τ) ((Memref.whole b).slice (r t) (hr t)) fullShare (fun j => V ((r t).emb j)))
    ⊢ (bigSep Finset.univ fun t => Any c ((Memref.whole b).slice (r t) (hr t)) : sProp 𝕄) from
      bigSep_mono fun t _ => h1 V t) $$ H'

omit hcov [Fintype T] [DecidableEq T] in
/-- Values given on each rectangle of such a family are the values of one array. -/
theorem glue (Vs : ∀ t, (r t).shape.Idx → Elt F b.ty.elt) : ∃ X : b.ty.shape.Idx → Elt F b.ty.elt, ∀ t, (fun j => X ((r t).emb j)) = Vs t := by
  have hx : ∀ i, ∃ v : Elt F b.ty.elt, ∀ t j, (r t).emb j = i → v = Vs t j := by
    intro i
    by_cases h : ∃ t j, (r t).emb j = i
    · obtain ⟨t, j, rfl⟩ := h
      refine ⟨Vs t j, fun t' j' e => ?_⟩
      have ht : t' = t := by
        by_contra hne
        have h' : (r t').emb j' ∈ (r t).set := by rw [e]; exact (r t).idx_mem j
        exact (Finset.disjoint_left.1 (hd t' t hne)) ((r t').idx_mem j') h'
      subst ht
      rw [(r t').emb.injective e]
    · exact ⟨Classical.choice (elt_nonempty _), fun t j e => absurd ⟨t, j, e⟩ h⟩
  choose X hX using hx
  exact ⟨X, fun t => funext fun j => hX _ t j rfl⟩

/-- The rectangles together are the buffer again. -/
theorem any_join : (bigSep Finset.univ fun t => Any (F := F) c ((Memref.whole b).slice (r t) (hr t)) : sProp 𝕄) ⊢ Any c (Memref.whole b) := by
  iintro H
  ihave H' := (BI.bigSep_exists_pi Finset.univ (fun t V => own (F := F) c ((Memref.whole b).slice (r t) (hr t)) fullShare V)) $$ H
  icases H' with ⟨%Vs, H⟩
  obtain ⟨X, hX⟩ := glue (F := F) r hd Vs
  ihave H' := (show bigSep Finset.univ (fun t => own (F := F) c ((Memref.whole b).slice (r t) (hr t)) fullShare (Vs t))
    ⊢ own c (Memref.whole b) fullShare X from by
      rw [show (fun t => own (F := F) c ((Memref.whole b).slice (r t) (hr t)) fullShare (Vs t))
        = fun t => own (F := F) c ((Memref.whole b).slice (r t) (hr t)) fullShare (fun j => X ((r t).emb j)) from funext fun t => by rw [hX t]]
      exact owns_of_rects (c : Thread nD τ) (Memref.whole b) fullShare r hr hd (cover r hcov) X) $$ H
  iexists X; iexact H'
end General

omit [FloatOps F] in
/-- A whole buffer as the launch hands it out. -/
theorem any_whole (b : Ref sig .tc) :
    (iprop(∃ f : Buf (Elt F) ((c : Thread nD τ).loc b), ((c : Thread nD τ).loc b) ↦{fullShare} f) : sProp 𝕄) = Any c (Memref.whole b) :=
  congrArg (fun Φ : _ → sProp 𝕄 => iprop(∃ f, Φ f)) (funext fun f => (owns_whole (c : Thread nD τ) b fullShare f).symm)

/-! ## The families -/

theorem rs_disj : ∀ t t' : Fin 2 × Fin 8, t ≠ t' → Disjoint (rsR t.2 t.1).set (rsR t'.2 t'.1).set := by
  rintro ⟨q, s⟩ ⟨q', s'⟩ hne
  rw [Finset.disjoint_left]
  intro i h h'
  have a0 := Rect.mem_set_unit.1 h 0
  have b0 := Rect.mem_set_unit.1 h' 0
  have a1 := Rect.mem_set_unit.1 h 1
  have b1 := Rect.mem_set_unit.1 h' 1
  have a0' : s.val ≤ (i 0).val ∧ (i 0).val < s.val + 1 := a0
  have b0' : s'.val ≤ (i 0).val ∧ (i 0).val < s'.val + 1 := b0
  have a1' : 256 * q.val ≤ (i 1).val ∧ (i 1).val < 256 * q.val + 256 := a1
  have b1' : 256 * q'.val ≤ (i 1).val ∧ (i 1).val < 256 * q'.val + 256 := b1
  exact hne (Prod.ext (Fin.ext (by show q.val = q'.val; omega)) (Fin.ext (by show s.val = s'.val; omega)))
theorem rs_cov : ∀ i : S8x512x1024.Idx, ∃ t : Fin 2 × Fin 8, i ∈ (rsR t.2 t.1).set := by
  intro i
  have h0 : (i 0).val < 8 := (i 0).isLt
  have h1 : (i 1).val < 512 := (i 1).isLt
  have h2 : (i 2).val < 1024 := (i 2).isLt
  refine ⟨(⟨(i 1).val / 256, by omega⟩, ⟨(i 0).val, h0⟩), Rect.mem_set_unit.2 fun a => ?_⟩
  match a with
  | ⟨0, _⟩ => exact ⟨Nat.le_refl _, Nat.lt_succ_self _⟩
  | ⟨1, _⟩ => show 256 * ((i 1).val / 256) ≤ (i 1).val ∧ (i 1).val < 256 * ((i 1).val / 256) + 256; omega
  | ⟨2, _⟩ => show 0 ≤ (i 2).val ∧ (i 2).val < 0 + 1024; omega

theorem bitN_dec (p : Prop) [Decidable p] : bitN (decide p) = if p then 1 else 0 := by by_cases h : p <;> simp [h, bitN]

theorem ag_disj : ∀ t t' : (Bool × Fin 2) × Fin 8, t ≠ t' → Disjoint (agR t.2 t.1.1 t.1.2).set (agR t'.2 t'.1.1 t'.1.2).set := by
  rintro ⟨⟨d, q⟩, k⟩ ⟨⟨d', q'⟩, k'⟩ hne
  rw [Finset.disjoint_left]
  intro i h h'
  rw [mem_agR] at h h'
  have := bitN_le d; have := bitN_le d'; have := q.isLt; have := q'.isLt
  have e1 : d = d' := bitN_inj (by show bitN d = bitN d'; dsimp only at h h'; omega)
  subst e1
  exact hne (Prod.ext (Prod.ext rfl (Fin.ext (by show q.val = q'.val; dsimp only at h h'; omega))) (Fin.ext (by show k.val = k'.val; dsimp only at h h'; omega)))
theorem ag_cov : ∀ i : S8192x1024.Idx, ∃ t : (Bool × Fin 2) × Fin 8, i ∈ (agR t.2 t.1.1 t.1.2).set := by
  intro i
  have h0 : (i 0).val < 8192 := (i 0).isLt
  refine ⟨((rowD (i 0).val, rowQ (i 0).val), ⟨(i 0).val / 1024, by omega⟩), (mem_agR _ _ _ i).2 ?_⟩
  have e : bitN (rowD (i 0).val) = (i 0).val / 512 % 2 := by
    unfold rowD; rw [bitN_dec]; split <;> omega
  rw [e]
  show 1024 * ((i 0).val / 1024) + 512 * ((i 0).val / 512 % 2) + 256 * ((i 0).val / 256 % 2) ≤ (i 0).val
    ∧ (i 0).val < 1024 * ((i 0).val / 1024) + 512 * ((i 0).val / 512 % 2) + 256 * ((i 0).val / 256 % 2) + 256
  omega

theorem mem_ouR (k : Fin 8) (d : Bool) (i : S8192x512.Idx) :
    i ∈ (ouR k d).set ↔ 1024 * k.val + 512 * bitN d ≤ (i 0).val ∧ (i 0).val < 1024 * k.val + 512 * bitN d + 512 := by
  have h1 : (i 1).val < 512 := (i 1).isLt
  refine (Rect.mem_set_unit.trans Fin.forall_fin_two).trans ⟨fun h => h.1, fun h => ⟨h, Nat.zero_le _, ?_⟩⟩
  show (i 1).val < 0 + 512; omega
theorem ou_disj : ∀ t t' : Bool × Fin 8, t ≠ t' → Disjoint (ouR t.2 t.1).set (ouR t'.2 t'.1).set := by
  rintro ⟨d, k⟩ ⟨d', k'⟩ hne
  rw [Finset.disjoint_left]
  intro i h h'
  rw [mem_ouR] at h h'
  have := bitN_le d; have := bitN_le d'
  have e1 : d = d' := bitN_inj (by show bitN d = bitN d'; dsimp only at h h'; omega)
  subst e1
  exact hne (Prod.ext rfl (Fin.ext (by show k.val = k'.val; dsimp only at h h'; omega)))
theorem ou_cov : ∀ i : S8192x512.Idx, ∃ t : Bool × Fin 8, i ∈ (ouR t.2 t.1).set := by
  intro i
  have h0 : (i 0).val < 8192 := (i 0).isLt
  refine ⟨(rowD (i 0).val, ⟨(i 0).val / 1024, by omega⟩), (mem_ouR _ _ i).2 ?_⟩
  have e : bitN (rowD (i 0).val) = (i 0).val / 512 % 2 := by
    unfold rowD; rw [bitN_dec]; split <;> omega
  rw [e]
  show 1024 * ((i 0).val / 1024) + 512 * ((i 0).val / 512 % 2) ≤ (i 0).val ∧ (i 0).val < 1024 * ((i 0).val / 1024) + 512 * ((i 0).val / 512 % 2) + 512
  omega

theorem ost_disj : ∀ t t' : Fin 2, t ≠ t' → Disjoint (ostS t).set (ostS t').set := by
  intro d d' hne
  rw [Finset.disjoint_left]
  intro i h h'
  have a0 : d.val ≤ (i 0).val ∧ (i 0).val < d.val + 1 := Rect.mem_set_unit.1 h 0
  have b0 : d'.val ≤ (i 0).val ∧ (i 0).val < d'.val + 1 := Rect.mem_set_unit.1 h' 0
  exact hne (Fin.ext (by omega))
theorem ost_cov : ∀ i : S2x512x512.Idx, ∃ t : Fin 2, i ∈ (ostS t).set := by
  intro i
  have h0 : (i 0).val < 2 := (i 0).isLt
  have h1 : (i 1).val < 512 := (i 1).isLt
  have h2 : (i 2).val < 512 := (i 2).isLt
  refine ⟨⟨(i 0).val, h0⟩, Rect.mem_set_unit.2 fun a => ?_⟩
  match a with
  | ⟨0, _⟩ => exact ⟨Nat.le_refl _, Nat.lt_succ_self _⟩
  | ⟨1, _⟩ => show 0 ≤ (i 1).val ∧ (i 1).val < 0 + 512; omega
  | ⟨2, _⟩ => show 0 ≤ (i 2).val ∧ (i 2).val < 0 + 512; omega

/-! ## Squeezed pieces -/

omit [FloatOps F] in
/-- What a squeezed memref holds is what the memref holds re-laid, so holding the one is holding the other. -/
theorem any_squeeze {sp : Space} {s s' : Shape} {e : EltTy} (m : Memref sig .tc sp s e) (hs : s.Squeezes s') (h1 : s'.ShapeCasts s) (h2 : s.ShapeCasts s') :
    Any (F := F) c (m.squeeze s' hs) = Any c m := by
  have a : Any (F := F) c (m.squeeze s' hs) ⊢ Any c m := by
    iintro ⟨%V, H⟩
    ihave H' := (Entails.of_eq (own_squeeze c m hs h1 h2 fullShare V)) $$ H
    iexists _; iexact H'
  have b : Any (F := F) c m ⊢ Any c (m.squeeze s' hs) := by
    iintro ⟨%V, H⟩
    have e : V = shapeCast s (shapeCast s' V h2) h1 := by
      funext j; simp only [shapeCast, Shape.reshapeEquiv_reshapeEquiv, Shape.reshapeEquiv_self]
    ihave H' := (Entails.of_eq ((congrArg (fun V => own c m fullShare V) e).trans (own_squeeze c m hs h1 h2 fullShare (shapeCast s' V h2)).symm)) $$ H
    iexists _; iexact H'
  exact Entails.antisymm a b

omit [FloatOps F] in
theorem any_rsP (d : Bool) (s : Fin 8) (q : Fin 2) : Any (F := F) c (rsP d s q) = Any c ((rsM d).slice (rsR s q) (fun _ => rfl)) :=
  any_squeeze c _ squeezes_S1x256x1024_S256x1024 shapeCasts_S256x1024_S1x256x1024 shapeCasts_S1x256x1024_S256x1024
omit [FloatOps F] in
theorem any_ostP (d : Fin 2) : Any (F := F) c (ostP d) = Any c (ostM.slice (ostS d) (fun _ => rfl)) :=
  any_squeeze c _ squeezes_S1x512x512_S512x512 shapeCasts_S512x512_S1x512x512 shapeCasts_S1x512x512_S512x512

/-- All slots of a direction, quarter by quarter. -/
theorem any_rs (d : Bool) : Any (F := F) c (rsM d) = (bigSep Finset.univ fun q : Fin 2 => bigSep Finset.univ fun s : Fin 8 => Any (F := F) c (rsP d s q) : sProp 𝕄) := by
  have e : (bigSep Finset.univ fun q : Fin 2 => bigSep Finset.univ fun s : Fin 8 => Any (F := F) c (rsP d s q) : sProp 𝕄)
      = bigSep Finset.univ fun t : Fin 2 × Fin 8 => Any (F := F) c ((rsM d).slice (rsR t.2 t.1) (fun _ => rfl)) := by
    rw [bigSep_univ_prod]
    exact bigSep_congr fun q _ => bigSep_congr fun s _ => any_rsP c d s q
  rw [e]
  cases d
  · exact Entails.antisymm (any_split (F := F) c (b := cc0_scratch3) (fun t : Fin 2 × Fin 8 => rsR t.2 t.1) (fun _ _ => rfl) rs_disj rs_cov)
      (any_join (F := F) c (b := cc0_scratch3) (fun t : Fin 2 × Fin 8 => rsR t.2 t.1) (fun _ _ => rfl) rs_disj rs_cov)
  · exact Entails.antisymm (any_split (F := F) c (b := cc0_scratch4) (fun t : Fin 2 × Fin 8 => rsR t.2 t.1) (fun _ _ => rfl) rs_disj rs_cov)
      (any_join (F := F) c (b := cc0_scratch4) (fun t : Fin 2 × Fin 8 => rsR t.2 t.1) (fun _ _ => rfl) rs_disj rs_cov)

/-- The gathered product, quarter by quarter. -/
theorem any_ag : Any (F := F) c agM = (bigSep Finset.univ fun p : Bool × Fin 2 => bigSep Finset.univ fun k : Fin 8 => Any (F := F) c (agP k p.1 p.2) : sProp 𝕄) := by
  have e : (bigSep Finset.univ fun p : Bool × Fin 2 => bigSep Finset.univ fun k : Fin 8 => Any (F := F) c (agP k p.1 p.2) : sProp 𝕄)
      = bigSep Finset.univ fun t : (Bool × Fin 2) × Fin 8 => Any (F := F) c (agM.slice (agR t.2 t.1.1 t.1.2) (fun _ => rfl)) := by
    exact (bigSep_univ_prod (fun t : (Bool × Fin 2) × Fin 8 => Any (F := F) c (agM.slice (agR t.2 t.1.1 t.1.2) (fun _ => rfl)))).symm
  rw [e]
  exact Entails.antisymm (any_split (F := F) c (b := cc0_scratch5) (fun t : (Bool × Fin 2) × Fin 8 => agR t.2 t.1.1 t.1.2) (fun _ _ => rfl) ag_disj ag_cov)
      (any_join (F := F) c (b := cc0_scratch5) (fun t : (Bool × Fin 2) × Fin 8 => agR t.2 t.1.1 t.1.2) (fun _ _ => rfl) ag_disj ag_cov)

/-- The two staging slots. -/
theorem any_ost : Any (F := F) c ostM = iprop(Ost (F := F) c false ∗ Ost c true) := by
  have e : (iprop(Ost (F := F) c false ∗ Ost c true) : sProp 𝕄) = bigSep Finset.univ fun t : Fin 2 => Any (F := F) c (ostM.slice (ostS t) (fun _ => rfl)) := by
    rw [bigSep_fin_two]
    exact congrArg₂ (fun P Q : sProp 𝕄 => iprop(P ∗ Q)) (any_ostP c 0) (any_ostP c 1)
  rw [e]
  exact Entails.antisymm (any_split (F := F) c (b := cc0_scratch2) ostS (fun _ _ => rfl) ost_disj ost_cov)
      (any_join (F := F) c (b := cc0_scratch2) ostS (fun _ _ => rfl) ost_disj ost_cov)

end Cert.KernelIdeal.Ringed
-- ==== Proof.Parts.lean ====
/- The pieces at the start and at the end of the body: where the hops land and where they read, gathered from the whole
   buffers and put together to whole buffers again. -/
module

public import proofs.«01_k».proof.Proof.Bufs
public import Idealize.ShloMosaic.Lib.StableHlo.CollectiveRules

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (I : Ins F) (c : Dev nD)

/-! ## Sums over hops -/

section Sums
variable {M : Type} [URA M]

/-- One index and the others. -/
theorem bigSep_opt {α β : Type} [Fintype α] [DecidableEq α] [Fintype β] (e : Option α → β) (he : Function.Bijective e) (Φ : β → sProp M) :
    bigSep Finset.univ Φ = iprop(Φ (e none) ∗ bigSep Finset.univ fun a => Φ (e (some a))) := by
  rw [bigSep_univ_equiv (Equiv.ofBijective e he) Φ, bigSep_univ_at _ none,
    show (Finset.univ.erase none : Finset (Option α)) = Finset.univ.map Function.Embedding.some from by ext x; cases x <;> simp, bigSep_map]
  rfl

theorem bigSep_bool (Φ : Bool → sProp M) : bigSep Finset.univ Φ = iprop(Φ false ∗ Φ true) :=
  bigSep_univ_eq_bigSepL [false, true] (by decide) (by decide) Φ

/-- The hops, by direction and quarter, then by phase and step. -/
def hopE : (Bool × Fin 2) × (Fin 7 ⊕ Fin 7) ≃ Hop where
  toFun p := match p.2 with
    | .inl t => ⟨false, t, p.1.2, p.1.1⟩
    | .inr t => ⟨true, t, p.1.2, p.1.1⟩
  invFun h := ((h.d, h.q), match h.ph with | false => .inl h.s | true => .inr h.s)
  left_inv := by rintro ⟨⟨d, q⟩, t | t⟩ <;> rfl
  right_inv := by rintro ⟨_ | _, s, q, d⟩ <;> rfl

theorem bigSep_hop (Φ : Hop → sProp M) :
    bigSep Finset.univ Φ = bigSep Finset.univ fun p : Bool × Fin 2 =>
      iprop((bigSep Finset.univ fun t : Fin 7 => Φ ⟨false, t, p.2, p.1⟩) ∗ (bigSep Finset.univ fun t : Fin 7 => Φ ⟨true, t, p.2, p.1⟩)) := by
  rw [bigSep_univ_equiv hopE Φ, bigSep_univ_prod]
  exact bigSep_congr fun p _ => bigSep_univ_sum _

theorem bigSep_four (Φ : Bool × Fin 2 → sProp M) :
    bigSep Finset.univ Φ = iprop(Φ (false, 0) ∗ Φ (true, 0) ∗ Φ (false, 1) ∗ Φ (true, 1)) :=
  bigSep_univ_eq_bigSepL [(false, 0), (true, 0), (false, 1), (true, 1)] (by decide) (by decide) Φ
end Sums

/-- A slot's number: the last; or the sixth and those the hops leave from. -/
def slotZ : Option (Fin 7) → Fin 8 | none => 7 | some t => slotB t
def slotY : Option (Fin 7) → Fin 8 | none => 6 | some t => slotA t
theorem slotZ_bij : Function.Bijective slotZ := by decide +kernel
theorem slotY_bij : Function.Bijective slotY := by decide +kernel
/-- A chunk: the device's own and those that arrive; or the last and those that are passed on. -/
def chunkZ (d : Bool) (c : Dev nD) : Option (Fin 7) → Fin 8 | none => bk d 0 c | some t => bk d (t.val + 1) c
def chunkY (d : Bool) (c : Dev nD) : Option (Fin 7) → Fin 8 | none => bk d 7 c | some t => bk d t.val c
theorem chunkZ_bij : ∀ d c, Function.Bijective (chunkZ d c) := by decide +kernel
theorem chunkY_bij : ∀ d c, Function.Bijective (chunkY d c) := by decide +kernel
def stepZ : Option (Fin 6) → Fin 7 | none => 0 | some t => t.succ
def stepY : Option (Fin 6) → Fin 7 | none => 6 | some t => t.castSucc
theorem stepZ_bij : Function.Bijective stepZ := by decide +kernel
theorem stepY_bij : Function.Bijective stepY := by decide +kernel

/-! ## The start -/

omit [FloatOps F] in
/-- Where the hops of the devices behind land. -/
theorem landing_rs (d : Bool) (t : Fin 7) (q : Fin 2) : landing (F := F) (frm d c) ⟨false, t, q, d⟩ = Any c (rsP d (slotB t) q) := by
  unfold landing
  show iprop(∃ X, own (F := F) (tgt d (frm d c)) (rsP d (slotB t) q) fullShare X) = _
  rw [tgt_frm]
omit [FloatOps F] in
theorem landing_ag (d : Bool) (t : Fin 7) (q : Fin 2) : landing (F := F) (frm d c) ⟨true, t, q, d⟩ = Any c (agP (bk d (t.val + 1) c) d q) := by
  unfold landing
  show iprop(∃ X, own (F := F) (tgt d (frm d c)) (agO (frm d c) d t q) fullShare X) = _
  rw [tgt_frm, agO_eq, bk_succ]

omit [FloatOps F] in
theorem bars_eq : (iprop(barPay (F := F) (tgt true c) false ∗ barPay (tgt false c) true) : sProp 𝕄)
    = bigSep Finset.univ fun p : Bool × Fin 2 => iprop((bigSep Finset.univ fun t : Fin 7 => Any c (rsP p.1 (slotB t) p.2))
        ∗ (bigSep Finset.univ fun t : Fin 7 => Any c (agP (bk p.1 (t.val + 1) c) p.1 p.2))) := by
  have e : (iprop(barPay (F := F) (tgt true c) false ∗ barPay (tgt false c) true) : sProp 𝕄) = bigSep Finset.univ fun h : Hop => landing (frm h.d c) h := by
    rw [by_dir]
    refine congrArg₂ (fun P Q : sProp 𝕄 => iprop(P ∗ Q)) ?_ ?_
    · unfold barPay
      refine bigSep_congr fun h hh => ?_
      rw [(Finset.mem_filter.1 hh).2, frm_false]
    · unfold barPay
      refine bigSep_congr fun h hh => ?_
      rw [(Finset.mem_filter.1 hh).2, frm_true]
  rw [e, bigSep_hop]
  refine bigSep_congr fun p _ => congrArg₂ (fun P Q : sProp 𝕄 => iprop(P ∗ Q)) ?_ ?_
  · exact bigSep_congr fun t _ => landing_rs c p.1 t p.2
  · exact bigSep_congr fun t _ => landing_ag c p.1 t p.2

/-- The slots of both directions, by direction and quarter. -/
theorem rs_both : (iprop(Any (F := F) c (rsM false) ∗ Any c (rsM true)) : sProp 𝕄)
    = bigSep Finset.univ fun p : Bool × Fin 2 => bigSep Finset.univ fun s : Fin 8 => Any c (rsP p.1 s p.2) := by
  rw [any_rs, any_rs, bigSep_univ_prod (fun p : Bool × Fin 2 => bigSep Finset.univ fun s : Fin 8 => Any (F := F) c (rsP p.1 s p.2)), bigSep_bool]

theorem mines : (bigSep Finset.univ fun p : Bool × Fin 2 => Any c (agP (bk p.1 0 c) p.1 p.2) : sProp 𝕄) ⊢ iprop(MineAny (F := F) c false ∗ MineAny c true) := by
  rw [bigSep_four]
  unfold MineAny
  iintro ⟨H1, H2, H3, H4⟩
  isplitl [H1 H3]
  · isplitl [H1]; · iexact H1
    iexact H3
  isplitl [H2]; · iexact H2
  iexact H4

/-- The three buffers the hops land in: the slots the first hops leave from, the device's own rows, and the landings
    handed to the devices behind. -/
theorem start_pieces : iprop((Any (F := F) c (rsM false) ∗ Any c (rsM true)) ∗ Any c agM)
    ⊢ iprop(Slot7 (F := F) c ∗ (MineAny c false ∗ MineAny c true) ∗ barPay (tgt true c) false ∗ barPay (tgt false c) true) := by
  have e1 : (iprop(Any (F := F) c (rsM false) ∗ Any c (rsM true)) : sProp 𝕄)
      = iprop((bigSep Finset.univ fun p : Bool × Fin 2 => Any (F := F) c (rsP p.1 7 p.2))
        ∗ bigSep Finset.univ fun p : Bool × Fin 2 => bigSep Finset.univ fun t : Fin 7 => Any c (rsP p.1 (slotB t) p.2)) := by
    rw [rs_both, ← bigSep_sep']
    exact bigSep_congr fun p _ => bigSep_opt slotZ slotZ_bij _
  have e2 : (Any (F := F) c agM : sProp 𝕄)
      = iprop((bigSep Finset.univ fun p : Bool × Fin 2 => Any (F := F) c (agP (bk p.1 0 c) p.1 p.2))
        ∗ bigSep Finset.univ fun p : Bool × Fin 2 => bigSep Finset.univ fun t : Fin 7 => Any c (agP (bk p.1 (t.val + 1) c) p.1 p.2)) := by
    rw [any_ag, ← bigSep_sep']
    exact bigSep_congr fun p _ => bigSep_opt (chunkZ p.1 c) (chunkZ_bij p.1 c) _
  have e3 : (bigSep Finset.univ fun p : Bool × Fin 2 => Any (F := F) c (rsP p.1 7 p.2) : sProp 𝕄) = Slot7 c := bigSep_four _
  rw [e1, e2, e3, bars_eq, bigSep_sep']
  iintro ⟨⟨H1, H2⟩, H3, H4⟩
  isplitl [H1]; · iexact H1
  isplitl [H3]; · iapply (mines c) $$ H3
  isplitl [H2]; · iexact H2
  iexact H4

/-! ## The end -/

/-- The slots of one direction and quarter at the end: what the hops left from, and the last that arrived. -/
theorem end_rs (d : Bool) (q : Fin 2) :
    iprop((bigSep Finset.univ fun t : Fin 7 => Kept I c ⟨false, t, q, d⟩) ∗ (bigSep Finset.univ fun t : Fin 7 => sendPay I c ⟨false, t, q, d⟩))
      ⊢ (bigSep Finset.univ fun s : Fin 8 => Any c (rsP d s q) : sProp 𝕄) := by
  have h1 : ∀ t : Fin 7, sendPay I c ⟨false, t, q, d⟩ ⊢ (Any c (rsP d (slotA t) q) : sProp 𝕄) := fun t => by
    have e : sendPay I c ⟨false, t, q, d⟩ = own c (rsP d (slotA t) q) fullShare (hopVal I c ⟨false, t, q, d⟩) := rfl
    rw [e]
    iintro H; iexists _; iexact H
  have h2 : Kept I c ⟨false, 6, q, d⟩ ⊢ (Any c (rsP d 6 q) : sProp 𝕄) := by
    have e : Kept I c ⟨false, 6, q, d⟩ = own c (rsP d 6 q) fullShare (hopVal I (frm d c) ⟨false, 6, q, d⟩) := rfl
    rw [e]
    iintro H; iexists _; iexact H
  rw [bigSep_opt slotY slotY_bij, bigSep_opt stepY stepY_bij (fun t => Kept I c ⟨false, t, q, d⟩)]
  iintro ⟨⟨H1, -⟩, H2⟩
  isplitl [H1]; · iapply (show Kept I c ⟨false, stepY none, q, d⟩ ⊢ (Any c (rsP d (slotY none) q) : sProp 𝕄) from h2) $$ H1
  iapply (show (bigSep Finset.univ fun t : Fin 7 => sendPay I c ⟨false, t, q, d⟩) ⊢ (bigSep Finset.univ fun t : Fin 7 => Any c (rsP d (slotA t) q) : sProp 𝕄) from
    bigSep_mono fun t _ => h1 t) $$ H2

omit [FloatOps F] in
theorem any_halves {sp : Space} {sh : Shape} {e : EltTy} (m : Memref sig .tc sp sh e) (X : sh.Idx → Elt F e) :
    iprop(own c m fullShare.left X ∗ own c m fullShare.right X) ⊢ (Any c m : sProp 𝕄) := by
  iintro H
  ihave H' := (owns_share (c : Thread nD τ) m (PosShare.mem_left_op_right fullShare) X).2 $$ H
  iexists X; iexact H'

/-- The gathered rows of one direction and quarter at the end: the left halves came back from the hops that passed them
    on, the right halves were kept for the products, the last rows were never passed on. -/
theorem end_ag (d : Bool) (q : Fin 2) :
    iprop(own c (agP (bk d 0 c) d q) fullShare.right (gat I (bk d 0 c) d q)
        ∗ (bigSep Finset.univ fun t : Fin 7 => Kept I c ⟨true, t, q, d⟩) ∗ (bigSep Finset.univ fun t : Fin 7 => sendPay I c ⟨true, t, q, d⟩))
      ⊢ (bigSep Finset.univ fun k : Fin 8 => Any c (agP k d q) : sProp 𝕄) := by
  have e1 : ∀ t : Fin 7, sendPay I c ⟨true, t, q, d⟩ = own c (agP (bk d t.val c) d q) fullShare.left (gat I (bk d t.val c) d q) := fun t => by
    show own c (agO c d t q) fullShare.left (gat I (bk d t.val c) d q) = _
    rw [agO_eq]
  have e2 : ∀ t : Fin 6, Kept I c ⟨true, t.castSucc, q, d⟩ = own c (agP (bk d (t.val + 1) c) d q) fullShare.right (gat I (bk d (t.val + 1) c) d q) := fun t => by
    show own c (agP (bk d (t.val + 1) c) d q) (if t.castSucc = 6 then fullShare else fullShare.right) (gat I (bk d (t.val + 1) c) d q) = _
    rw [if_neg (castSucc_ne t)]
  have e3 : Kept I c ⟨true, 6, q, d⟩ ⊢ (Any c (agP (bk d 7 c) d q) : sProp 𝕄) := by
    have e : Kept I c ⟨true, 6, q, d⟩ = own c (agP (bk d 7 c) d q) fullShare (gat I (bk d 7 c) d q) := rfl
    rw [e]
    iintro H; iexists _; iexact H
  have e4 : (iprop(own c (agP (bk d 0 c) d q) fullShare.right (gat I (bk d 0 c) d q)
        ∗ bigSep Finset.univ fun t : Fin 6 => Kept I c ⟨true, t.castSucc, q, d⟩) : sProp 𝕄)
      = bigSep Finset.univ fun t : Fin 7 => own c (agP (bk d t.val c) d q) fullShare.right (gat I (bk d t.val c) d q) := by
    rw [bigSep_opt stepZ stepZ_bij (fun t : Fin 7 => own c (agP (bk d t.val c) d q) fullShare.right (gat I (bk d t.val c) d q))]
    exact congrArg (fun P : sProp 𝕄 => iprop(own c (agP (bk d 0 c) d q) fullShare.right (gat I (bk d 0 c) d q) ∗ P)) (bigSep_congr fun t _ => e2 t)
  rw [bigSep_opt (chunkY d c) (chunkY_bij d c), bigSep_opt stepY stepY_bij (fun t => Kept I c ⟨true, t, q, d⟩), bigSep_congr fun t _ => e1 t]
  iintro ⟨H0, ⟨H6, H1⟩, H2⟩
  isplitl [H6]; · iapply (show Kept I c ⟨true, stepY none, q, d⟩ ⊢ (Any c (agP (chunkY d c none) d q) : sProp 𝕄) from e3) $$ H6
  ihave H3 := (Entails.of_eq e4) $$ [H0 H1]
  · isplitl [H0]; · iexact H0
    iexact H1
  iapply (show iprop((bigSep Finset.univ fun t : Fin 7 => own c (agP (bk d t.val c) d q) fullShare.left (gat I (bk d t.val c) d q))
      ∗ bigSep Finset.univ fun t : Fin 7 => own c (agP (bk d t.val c) d q) fullShare.right (gat I (bk d t.val c) d q))
      ⊢ (bigSep Finset.univ fun t : Fin 7 => Any c (agP (bk d t.val c) d q) : sProp 𝕄) from by
        rw [← bigSep_sep']
        exact bigSep_mono fun t _ => any_halves c _ _)
  isplitl [H2]; · iexact H2
  iexact H3

theorem mines_eq : (iprop(Mine I c false ∗ Mine I c true) : sProp 𝕄)
    ⊢ bigSep Finset.univ fun p : Bool × Fin 2 => own c (agP (bk p.1 0 c) p.1 p.2) fullShare.right (gat I (bk p.1 0 c) p.1 p.2) := by
  rw [bigSep_four]
  unfold Mine
  iintro ⟨⟨H1, H2⟩, H3, H4⟩
  isplitl [H1]; · iexact H1
  isplitl [H3]; · iexact H3
  isplitl [H2]; · iexact H2
  iexact H4

/-- What the hops kept and gave back, with the device's own rows, is the three buffers again. -/
theorem end_pieces : iprop((Mine I c false ∗ Mine I c true) ∗ bigSep Finset.univ (fun h => Kept I c h) ∗ bigSep Finset.univ (fun h => sendPay I c h))
    ⊢ (iprop((Any c (rsM false) ∗ Any c (rsM true)) ∗ Any c agM) : sProp 𝕄) := by
  rw [rs_both, any_ag, bigSep_hop, bigSep_hop, bigSep_sep', bigSep_sep']
  iintro ⟨H0, ⟨H1, H2⟩, H3, H4⟩
  ihave H0' := (mines_eq I c) $$ H0
  isplitl [H1 H3]
  · iapply (show iprop((bigSep Finset.univ fun p : Bool × Fin 2 => bigSep Finset.univ fun t : Fin 7 => Kept I c ⟨false, t, p.2, p.1⟩)
        ∗ bigSep Finset.univ fun p : Bool × Fin 2 => bigSep Finset.univ fun t : Fin 7 => sendPay I c ⟨false, t, p.2, p.1⟩)
      ⊢ (bigSep Finset.univ fun p : Bool × Fin 2 => bigSep Finset.univ fun s : Fin 8 => Any c (rsP p.1 s p.2) : sProp 𝕄) from by
        rw [← bigSep_sep']
        exact bigSep_mono fun p _ => end_rs I c p.1 p.2)
    isplitl [H1]; · iexact H1
    iexact H3
  iapply (show iprop((bigSep Finset.univ fun p : Bool × Fin 2 => own c (agP (bk p.1 0 c) p.1 p.2) fullShare.right (gat I (bk p.1 0 c) p.1 p.2))
        ∗ (bigSep Finset.univ fun p : Bool × Fin 2 => bigSep Finset.univ fun t : Fin 7 => Kept I c ⟨true, t, p.2, p.1⟩)
        ∗ bigSep Finset.univ fun p : Bool × Fin 2 => bigSep Finset.univ fun t : Fin 7 => sendPay I c ⟨true, t, p.2, p.1⟩)
      ⊢ (bigSep Finset.univ fun p : Bool × Fin 2 => bigSep Finset.univ fun k : Fin 8 => Any c (agP k p.1 p.2) : sProp 𝕄) from by
        rw [← bigSep_sep', ← bigSep_sep']
        exact bigSep_mono fun p _ => end_ag I c p.1 p.2)
  isplitl [H0']; · iexact H0'
  isplitl [H2]; · iexact H2
  iexact H4

/-! ## The result -/

/-- A device's chunks as the order its stores take them in. -/
def chunkE (d : Bool) (c : Dev nD) (k : Fin 8) : Fin 8 := bk d k.val c
theorem chunkE_bij : ∀ d c, Function.Bijective (chunkE d c) := by decide +kernel

theorem outs_start : Any (F := F) c outM ⊢ (iprop(Outs I c false 0 ∗ Outs I c true 0) : sProp 𝕄) := by
  have e : (iprop(Outs I c false 0 ∗ Outs I c true 0) : sProp 𝕄) = bigSep Finset.univ fun t : Bool × Fin 8 => Any (F := F) c (outM.slice (ouR t.2 t.1) (fun _ => rfl)) := by
    rw [bigSep_univ_prod, bigSep_bool]
    refine congrArg₂ (fun P Q : sProp 𝕄 => iprop(P ∗ Q)) ?_ ?_
    · unfold Outs
      rw [bigSep_univ_equiv (Equiv.ofBijective (chunkE false c) (chunkE_bij false c)) (fun k => Any (F := F) c (outM.slice (ouR k false) (fun _ => rfl)))]
      exact bigSep_congr fun k _ => if_pos (Nat.zero_le _)
    · unfold Outs
      rw [bigSep_univ_equiv (Equiv.ofBijective (chunkE true c) (chunkE_bij true c)) (fun k => Any (F := F) c (outM.slice (ouR k true) (fun _ => rfl)))]
      exact bigSep_congr fun k _ => if_pos (Nat.zero_le _)
  rw [e]
  exact any_split (F := F) c (b := main_v1) (fun t : Bool × Fin 8 => ouR t.2 t.1) (fun _ _ => rfl) ou_disj ou_cov

/-- All stores done, the result is the result. -/
theorem outs_end : iprop(Outs I c false 8 ∗ Outs I c true 8) ⊢ (own c outM fullShare (outC' I c) : sProp 𝕄) := by
  have e : (iprop(Outs I c false 8 ∗ Outs I c true 8) : sProp 𝕄)
      = bigSep Finset.univ fun t : Bool × Fin 8 => own c (outM.slice (ouR t.2 t.1) (fun _ => rfl)) fullShare (fun j => outC' I c ((ouR t.2 t.1).emb j)) := by
    rw [bigSep_univ_prod, bigSep_bool]
    refine congrArg₂ (fun P Q : sProp 𝕄 => iprop(P ∗ Q)) ?_ ?_
    · unfold Outs
      rw [bigSep_univ_equiv (Equiv.ofBijective (chunkE false c) (chunkE_bij false c))
        (fun k => own c (outM.slice (ouR k false) (fun _ => rfl)) fullShare (fun j => outC' I c ((ouR k false).emb j)))]
      refine bigSep_congr fun k _ => (if_neg (by have := k.isLt; omega)).trans ?_
      exact congrArg (fun X => own c (outM.slice (ouR (bk false k.val c) false) (fun _ => rfl)) fullShare X) (outC'_piece I c (bk false k.val c) false).symm
    · unfold Outs
      rw [bigSep_univ_equiv (Equiv.ofBijective (chunkE true c) (chunkE_bij true c))
        (fun k => own c (outM.slice (ouR k true) (fun _ => rfl)) fullShare (fun j => outC' I c ((ouR k true).emb j)))]
      refine bigSep_congr fun k _ => (if_neg (by have := k.isLt; omega)).trans ?_
      exact congrArg (fun X => own c (outM.slice (ouR (bk true k.val c) true) (fun _ => rfl)) fullShare X) (outC'_piece I c (bk true k.val c) true).symm
  rw [e]
  exact owns_of_rects (c : Thread nD τ) (Memref.whole main_v1) fullShare (fun t : Bool × Fin 8 => ouR t.2 t.1) (fun _ _ => rfl) ou_disj (cover (b := main_v1) (fun t : Bool × Fin 8 => ouR t.2 t.1) ou_cov) (outC' I c)

/-! ## The semaphores -/

/-- The kernel's own semaphores, in the order of the array. -/
def osem (k : Fin 116) : SemLoc sig := .dma (⟨k.val + 2, by have := k.isLt; show k.val + 2 < 118; omega⟩ : Fin 118)

abbrev SIx := (Bool ⊕ Bool) ⊕ (Hop × Bool)
theorem semNum_lt (h : Hop) (r : Bool) : 6 ≤ semNum h r ∧ semNum h r < 118 := by
  have := bitN_le h.ph; have := bitN_le h.d; have := h.s.isLt; have := h.q.isLt; have := bitN_le r
  unfold semNum; omega
/-- The same by what they are for: the loads', the stores', the hops'. -/
def semAt : SIx → Fin 116
  | .inl (.inl d) => ⟨bitN d, by have := bitN_le d; omega⟩
  | .inl (.inr d) => ⟨2 + bitN d, by have := bitN_le d; omega⟩
  | .inr (h, r) => ⟨semNum h r - 2, by have := semNum_lt h r; omega⟩
theorem semAt_inj : Function.Injective semAt := by
  rintro ((d | d) | ⟨h, r⟩) ((d' | d') | ⟨h', r'⟩) e <;> have e := congrArg Fin.val e <;> dsimp only [semAt] at e
  · rw [bitN_inj e]
  · have := bitN_le d; omega
  · have := bitN_le d; have := semNum_lt h' r'; omega
  · have := bitN_le d'; omega
  · rw [bitN_inj (a := d) (b := d') (by omega)]
  · have := bitN_le d; have := semNum_lt h' r'; omega
  · have := bitN_le d'; have := semNum_lt h r; omega
  · have := bitN_le d'; have := semNum_lt h r; omega
  · have := semNum_lt h r; have := semNum_lt h' r'
    obtain ⟨h1, h2⟩ := semNum_inj (h := h) (h' := h') (r := r) (r' := r') (by omega)
    subst h1 h2; rfl
theorem semAt_bij : Function.Bijective semAt := by
  rw [Fintype.bijective_iff_injective_and_card]
  refine ⟨semAt_inj, ?_⟩
  have e : Fintype.card Hop = 56 := (Fintype.card_congr Hop.equiv.symm).trans (by simp)
  simp [e]

omit [FloatOps F] in
/-- The kernel's own semaphores at zero: the loads', the stores' and the hops'. -/
theorem ownSems_eq : (Pipeline.ownSems0 (Ix := Unit) (Name := ℕ) (U := UU) (Lvl := ℕ) (Val := Elt F) (τ := τ) osem c : sProp 𝕄)
    = iprop(((semVal ((c : Thread nD τ), .dma (ldS false)) 0 ∗ semVal ((c : Thread nD τ), .dma (ldS true)) 0) ∗ (zeroS c false ∗ zeroS c true))
      ∗ (bigSep Finset.univ fun p : Hop × Bool => semVal (kcell (c, some p)) 0)) := by
  unfold Pipeline.ownSems0
  rw [bigSep_univ_equiv (Equiv.ofBijective semAt semAt_bij), bigSep_univ_sum, bigSep_univ_sum, bigSep_bool, bigSep_bool]
  have hl : ∀ d : Bool, osem (semAt (.inl (.inl d))) = .dma (ldS d) := fun d => congrArg SemLoc.dma (Fin.ext (by rw [ldS_val]; show bitN d + 2 = _; omega))
  have hs : ∀ d : Bool, osem (semAt (.inl (.inr d))) = .dma (stS (bit d)) := fun d => congrArg SemLoc.dma (Fin.ext (by rw [stS_val]; show 2 + bitN d + 2 = _; omega))
  have hh : ∀ p : Hop × Bool, osem (semAt (.inr p)) = csem (some p) := by
    rintro ⟨h, r⟩
    rw [csem_hop]
    refine congrArg SemLoc.dma (Fin.ext ?_)
    rw [semO_val]
    have := semNum_lt h r
    show semNum h r - 2 + 2 = semNum h r
    omega
  have e : ∀ (x : SIx) (s : SemLoc sig), osem (semAt x) = s →
      (semVal ((c : Thread nD τ), osem ((Equiv.ofBijective semAt semAt_bij) x)) 0 : sProp 𝕄) = semVal ((c : Thread nD τ), s) 0 := by
    intro x s h; rw [← h]; rfl
  refine congrArg₂ (fun P Q : sProp 𝕄 => iprop(P ∗ Q)) (congrArg₂ (fun P Q : sProp 𝕄 => iprop(P ∗ Q)) ?_ ?_) ?_
  · exact congrArg₂ (fun P Q : sProp 𝕄 => iprop(P ∗ Q)) (e _ _ (hl false)) (e _ _ (hl true))
  · exact congrArg₂ (fun P Q : sProp 𝕄 => iprop(P ∗ Q)) (e _ _ (hs false)) (e _ _ (hs true))
  · exact bigSep_congr fun p _ => e _ _ (hh p)

omit [FloatOps F] in
/-- What is said of every hop's two cells is said of the senders' and of the receivers'. -/
theorem hop_cells (Φ : Hop × Bool → sProp 𝕄) :
    bigSep Finset.univ Φ = iprop((bigSep Finset.univ fun h : Hop => Φ (h, false)) ∗ bigSep Finset.univ fun h : Hop => Φ (h, true)) := by
  rw [bigSep_univ_prod, ← bigSep_sep']
  exact bigSep_congr fun h _ => bigSep_bool _

end Cert.KernelIdeal.Ringed
-- ==== Proof.ProgEq.lean ====
/- The printed body is the sequence of steps. -/
module

public import proofs.«01_k».proof.Proof.Program
public import Idealize.ShloMosaic.Lib.Tactic

@[expose] public section

noncomputable section

namespace Cert.KernelIdeal.Ringed

open Idealize.ShloMosaic Idealize.ShloMosaic.TcCoe Idealize.SL.Sem
open Cert.KernelIdeal.Gen

variable {F : FTy → Type} [FloatOps F]

/-- The printed body is the sequence of steps, after it has asked which device it runs on. -/
theorem body_eq (a1 : Memref sig .tc .vmem S1024x1024 .f32) (h1 : a1.IsWhole) (a2 : Memref sig .tc .vmem S1024x512 .f32) (h2 : a2.IsWhole) :
    cc0_body (F := F) xM (Memref.isWhole_whole _) a1 h1 a2 h2 outM (Memref.isWhole_whole _) (stM false) (stM_whole false) (stM true) (stM_whole true)
      ostM (Memref.isWhole_whole _) (rsM false) (rsM_whole false) (rsM true) (rsM_whole true) agM (Memref.isWhole_whole _)
      w1M (Memref.isWhole_whole _) w2M (Memref.isWhole_whole _) cc0_scratch8 cc0_scratch9 cc0_scratch10 cc0_scratch11 cc0_scratch12 cc0_scratch13
      cc0_scratch14 cc0_scratch15 cc0_scratch16 cc0_scratch17 cc0_scratch18
    = (Prog.lift (.deviceId) : Pg F (Dev nD)) >>= fun c => ring a1 a2 c := by
  sl_kernel_rfl

end Cert.KernelIdeal.Ringed
-- ==== Proof.Body.lean ====
/- The body as the pipeline calls it: what a device holds when it is entered, and what it leaves. -/
module

public import proofs.«01_k».proof.Proof.Parts
public import proofs.«01_k».proof.Proof.ProgEq
public import proofs.«01_k».proof.Proof.Gen.KernelIdeal.Points
public import Idealize.ShloMosaic.Lib.Pipeline.Frame

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ UU ℕ

section Parts
variable (I : Ins F) (K : Dev nD × KIx → ℕ) (c : Dev nD)

/-- Every cell's invariant, and that every cell is at its first round. -/
def Book : sProp 𝕄 :=
  iprop(bigSep Finset.univ (fun ck => cellInv ER (ringRd I) (K ck) (kcell ck)) ∗ bigSep Finset.univ (fun ck : Dev nD × KIx => reached ER (kcell ck) 0))
instance Book_persistent : Persistent (Book I K) := by unfold Book; infer_instance

/-- A device's places on its cells, and the duties it pays. -/
def Lin : sProp 𝕄 :=
  iprop((bigSep Finset.univ fun h => Pre0 (F := F) c h) ∗ (bigSep Finset.univ fun h => atPos ER (recvCell c h) 0 ∅ 0) ∗ atPos ER (barCell c) 0 ∅ 0
    ∗ dutyTok ER (barCell (tgt true c)) 0 false ∗ dutyTok ER (barCell (tgt false c)) 0 true)

/-- The semaphores of the local copies, at zero. -/
def Locs : sProp 𝕄 :=
  iprop((semVal ((c : Thread nD τ), .dma (ldS false)) 0 ∗ semVal ((c : Thread nD τ), .dma (ldS true)) 0) ∗ (zeroS (F := F) c false ∗ zeroS c true))

def Credits : sProp 𝕄 :=
  iprop((bigSep Finset.univ fun h => cred (tallyAt (recvCell c h) () N)) ∗ cred (tallyAt (barCell c) () 2))

/-- What a device starts from, its scratch buffers aside. -/
def Start : sProp 𝕄 :=
  iprop(((∃ K, Book I K ∗ Lin (F := F) c) ∗ Locs (F := F) c) ∗ levAts L lv ∗ Credits (F := F) c ∗ own c xM fullShare (I.x c) ∗ Any (F := F) c outM)

/-- The scratch buffers, with whatever they hold. -/
def Scratch : sProp 𝕄 :=
  iprop(Any (F := F) c (stM false) ∗ Any c (stM true) ∗ Any c ostM ∗ Any c (rsM false) ∗ Any c (rsM true) ∗ Any c agM ∗ Any c w1M ∗ Any c w2M)

/-- What the body leaves: the scratch buffers, every semaphore at zero, the argument and the result. -/
def Final : sProp 𝕄 :=
  iprop(Scratch (F := F) c ∗ (Locs (F := F) c ∗ bigSep Finset.univ fun p : Hop × Bool => semVal (kcell (c, some p)) 0) ∗ semVal (barCell c) 0
    ∗ own c xM fullShare (I.x c) ∗ own c outM fullShare (outC' I c))

omit [FloatOps F] in
theorem credits_due : iprop((bigSep Finset.univ fun h => atPos ER (recvCell c h) 0 ∅ 0) ∗ (bigSep Finset.univ fun h => cred (tallyAt (recvCell c h) () N)))
    = (bigSep Finset.univ fun h => Due (F := F) c h : sProp 𝕄) := by
  rw [← bigSep_sep']; rfl

theorem recvs_start : (bigSep Finset.univ fun h => Due (F := F) c h : sProp 𝕄) = Recvs I c 0 := by
  unfold Recvs
  exact bigSep_congr fun h _ => (if_pos (Nat.zero_le _)).symm
theorem recvs_end : Recvs I c 56 = iprop((bigSep Finset.univ fun h : Hop => semVal (recvCell c h) 0) ∗ bigSep Finset.univ fun h => Kept I c h) := by
  unfold Recvs
  rw [← bigSep_sep']
  exact bigSep_congr fun h _ => if_neg (by have := num_lt h; omega)
theorem backs_end : Backs I c 56 = iprop((bigSep Finset.univ fun h : Hop => semVal (sendCell c h) 0) ∗ bigSep Finset.univ fun h => sendPay I c h) := by
  unfold Backs
  rw [← bigSep_sep']
  exact bigSep_congr fun h _ => if_neg (by have := num_lt h; omega)

/-- What the body is entered with is what its run takes. -/
theorem body_in {W} : iprop(Start I c ∗ Scratch (F := F) c ∗ owes (c : Thread nD τ) (owe₀ c) W)
    ⊢ iprop(∃ K, Rec I K ∗ (Xidle I c false ∗ Xidle I c true ∗ (∃ V, own c w1M fullShare V) ∗ (∃ V, own c w2M fullShare V)
        ∗ Hand (F := F) c ∗ Slot7 c ∗ Recvs I c 0) ∗ Mid I c iprop(MineAny c false ∗ MineAny c true) 0) := by
  unfold Start Scratch Lin Locs Credits Hand Mid Xidle xAt
  iintro ⟨⟨⟨⟨%K, #HB, Hp, Ha, Hb, Ht1, Ht2⟩, ⟨Hl0, Hl1⟩, Hz0, Hz1⟩, #HL, ⟨Hc, Hc2⟩, Hx, Ho⟩, ⟨Hs0, Hs1, Host, Hr0, Hr1, Hag, Hw1, Hw2⟩, HO⟩
  iexists K
  ihave HP := (start_pieces (F := F) c) $$ [Hr0 Hr1 Hag]
  · isplitl [Hr0 Hr1]
    · isplitl [Hr0]; · iexact Hr0
      iexact Hr1
    iexact Hag
  icases HP with ⟨H7, HM, Hb1, Hb2⟩
  ihave Hx' := (own_halves c xM (I.x c)) $$ Hx
  icases Hx' with ⟨Hxl, Hxr⟩
  ihave Hd := (Entails.of_eq ((credits_due (F := F) c).trans (recvs_start I c))) $$ [Ha Hc]
  · isplitl [Ha]; · iexact Ha
    iexact Hc
  ihave Host' := (Entails.of_eq (any_ost (F := F) c)) $$ Host
  ihave Ho' := (outs_start I c) $$ Ho
  isplitr
  · unfold Rec Book
    icases HB with ⟨#HB1, #HB2⟩
    isplitr; · iexact HB1
    isplitr; · iexact HB2
    iexact HL
  isplitr [HM Ho' Host' Hz0 Hz1]
  · isplitl [Hs0 Hxl Hl0]
    · isplitl [Hs0]; · iexact Hs0
      isplitl [Hxl]; · iexact Hxl
      iexact Hl0
    isplitl [Hs1 Hxr Hl1]
    · isplitl [Hs1]; · iexact Hs1
      isplitl [Hxr]; · iexact Hxr
      iexact Hl1
    isplitl [Hw1]; · iexact Hw1
    isplitl [Hw2]; · iexact Hw2
    isplitr [H7 Hd]
    · isplitl [HO]; · iexists W; iexact HO
      isplitl [Hp]; · iexact Hp
      isplitl [Hb]; · iexact Hb
      isplitl [Hc2]; · iexact Hc2
      isplitl [Ht1]; · iexact Ht1
      isplitl [Ht2]; · iexact Ht2
      isplitl [Hb1]; · iexact Hb1
      iexact Hb2
    isplitl [H7]; · iexact H7
    iexact Hd
  isplitl [HM]; · iexact HM
  isplitl [Ho']; · iexact Ho'
  isplitl [Host']; · iexact Host'
  isplitl [Hz0]; · iexact Hz0
  iexact Hz1

/-- What its run ends with is what the body leaves. -/
theorem body_out : iprop(Acts I c ∗ Wts I c ∗ Mid I c iprop(Mine I c false ∗ Mine I c true) 8 ∗ Ends I c)
    ⊢ iprop(Final I c ∗ ∃ W, owes (c : Thread nD τ) 0 W) := by
  unfold Acts Wts Mid Ends Xidle xAt Final Scratch Locs Ow
  iintro ⟨⟨⟨Hs0, Hxl, Hl0⟩, ⟨Hs1, Hxr, Hl1⟩, Hw1⟩, Hw2, ⟨HM, Ho, Host, Hz0, Hz1⟩, HR, HBk, ⟨%W, HO⟩, Hb⟩
  ihave HR' := (Entails.of_eq (recvs_end I c)) $$ HR
  icases HR' with ⟨Hrz, Hk⟩
  ihave HB' := (Entails.of_eq (backs_end I c)) $$ HBk
  icases HB' with ⟨Hsz, Hp⟩
  ihave HE := (end_pieces I c) $$ [HM Hk Hp]
  · isplitl [HM]; · iexact HM
    isplitl [Hk]; · iexact Hk
    iexact Hp
  icases HE with ⟨⟨Hr0, Hr1⟩, Hag⟩
  ihave Ho' := (outs_end I c) $$ Ho
  ihave Host' := (Entails.of_eq (any_ost (F := F) c).symm) $$ Host
  ihave Hx := (owns_share (c : Thread nD τ) xM (PosShare.mem_left_op_right fullShare) (I.x c)).2 $$ [Hxl Hxr]
  · isplitl [Hxl]; · iexact Hxl
    iexact Hxr
  ihave Hz := (Entails.of_eq (hop_cells (F := F) (fun p : Hop × Bool => semVal (kcell (c, some p)) 0)).symm) $$ [Hsz Hrz]
  · isplitl [Hsz]; · iexact Hsz
    iexact Hrz
  isplitr [HO]
  · isplitl [Hs0 Hs1 Host' Hr0 Hr1 Hag Hw1 Hw2]
    · isplitl [Hs0]; · iexact Hs0
      isplitl [Hs1]; · iexact Hs1
      isplitl [Host']; · iexact Host'
      isplitl [Hr0]; · iexact Hr0
      isplitl [Hr1]; · iexact Hr1
      isplitl [Hag]; · iexact Hag
      isplitl [Hw1]; · iexists _; iexact Hw1
      iexists _; iexact Hw2
    isplitl [Hl0 Hl1 Hz0 Hz1 Hz]
    · isplitl [Hl0 Hl1 Hz0 Hz1]
      · isplitl [Hl0 Hl1]
        · isplitl [Hl0]; · iexact Hl0
          iexact Hl1
        isplitl [Hz0]; · iexact Hz0
        iexact Hz1
      iexact Hz
    isplitl [Hb]; · iexact Hb
    isplitl [Hx]; · iexact Hx
    iexact Ho'
  iexists W
  iapply (Entails.of_eq (congrArg (fun O => owes (c : Thread nD τ) O W) (owe_end c))) $$ HO

/-- The body, from what it is entered with to what it leaves. -/
theorem wp_body (a1 : Memref sig .tc .vmem S1024x1024 .f32) (a2 : Memref sig .tc .vmem S1024x512 .f32) {W} {Q : PUnit → sProp 𝕄} :
    iprop((Start I c ∗ Scratch (F := F) c ∗ owes (c : Thread nD τ) (owe₀ c) W) ∗ own c a1 fullShare (I.w1 c) ∗ own c a2 fullShare (I.w2 c))
      ⊢ iprop(((Final I c ∗ (∃ W, owes (c : Thread nD τ) 0 W) ∗ own c a1 fullShare (I.w1 c) ∗ own c a2 fullShare (I.w2 c)) -∗ Q ⟨⟩)
        -∗ WP c (ring a1 a2 c) Q) := by
  iintro ⟨HS, Ha1, Ha2⟩ Hk
  ihave HS' := (body_in I c) $$ HS
  icases HS' with ⟨%K, #HR, ⟨H1, H2, H3, H4, H5, H6, H7⟩, HM⟩
  iapply (wp_ring I K c a1 a2) $$ [H1 H2 H3 H4 H5 H6 H7 HM Ha1 Ha2]
  · isplitr; · iexact HR
    isplitr [HM]
    · isplitl [H1]; · iexact H1
      isplitl [H2]; · iexact H2
      isplitl [H3]; · iexact H3
      isplitl [H4]; · iexact H4
      isplitl [Ha1]; · iexact Ha1
      isplitl [Ha2]; · iexact Ha2
      isplitl [H5]; · iexact H5
      isplitl [H6]; · iexact H6
      iexact H7
    iexact HM
  iintro ⟨HA, HW, Ha1, Ha2, HM, HE⟩
  ihave HF := (body_out I c) $$ [HA HW HM HE]
  · isplitl [HA]; · iexact HA
    isplitl [HW]; · iexact HW
    isplitl [HM]; · iexact HM
    iexact HE
  icases HF with ⟨HF, HO⟩
  iapply Hk
  isplitl [HF]; · iexact HF
  isplitl [HO]; · iexact HO
  isplitl [Ha1]; · iexact Ha1
  iexact Ha2
end Parts

/-! ## The proof data -/

variable (m : (ℓ : Loc nD τ sig) → Buf (Elt F) ℓ) (ρ : Dev nD → PrngReg)

/-- The inputs as the memory holds them: the activations, and the two weights' blocks as they are staged. -/
def insOf : Ins F where
  x c := m ((c : Thread nD τ).loc main_arg0)
  w1 c := ((cfg0.win 0).blk t0_0).view.read (Elt F) (m ((c : Thread nD τ).loc main_arg1))
  w2 c := ((cfg0.win 1).blk t0_0).view.read (Elt F) (m ((c : Thread nD τ).loc main_arg2))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).w1 c
    | ⟨1, _⟩ => (insOf m).w2 c
  Φ t := match t with
    | ⟨0, _⟩ => iprop(Start (insOf m) c ∗ Scratch c)
    | ⟨_ + 1, _⟩ => Final (insOf m) c
  q _ := fullShare
  owed t := match t with
    | ⟨0, _⟩ => owe₀ c
    | ⟨_ + 1, _⟩ => 0

/-- A staging buffer that holds `X`. -/
abbrev stg (c : Dev nD) (b : Ref sig .tc) (X : b.ty.Contents (Elt F)) : sProp 𝕄 := own c (Memref.whole b) fullShare X

theorem before_0 (c : Dev nD) (d) : (dats m ρ 0 c).before (0 : Fin 2) t0_0 d = (insOf m).w1 c := by
  unfold Dat.before; rw [if_pos (fetch0_0 t0_0)]; rfl
theorem before_1 (c : Dev nD) (d) : (dats m ρ 0 c).before (1 : Fin 2) t0_0 d = (insOf m).w2 c := by
  unfold Dat.before; rw [if_pos (fetch0_1 t0_0)]; rfl

theorem wp_named (c : Dev nD) (k : Dev nD → Pg F PUnit) (Q : PUnit → sProp 𝕄) : WP c ((Prog.lift .deviceId : Pg F (Dev nD)) >>= k) Q = WP c (k c) Q := by
  show WP c (.op .deviceId fun d => (Prog.ret d).bind k) Q = _
  unfold WP
  rw [wp_deviceId]
  rfl

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  show iprop((Start (insOf m) c ∗ Scratch c) ∗ (dats m ρ 0 c).owesAt () t0_0.castSucc
      ∗ (∃ d, stg c cc0_stg0_0 ((dats m ρ 0 c).before (0 : Fin 2) t0_0 d)) ∗ (∃ d, stg c cc0_stg1_0 ((dats m ρ 0 c).before (1 : Fin 2) t0_0 d)))
    ⊢ wp frame (wpE (defs₀ (F := F)) 𝒱₀ c none) Set.univ
      (cc0_body xM (Memref.isWhole_whole _) (Memref.whole cc0_stg0_0) (Memref.isWhole_whole _) (Memref.whole cc0_stg1_0) (Memref.isWhole_whole _) outM (Memref.isWhole_whole _)
        (stM false) (stM_whole false) (stM true) (stM_whole true) ostM (Memref.isWhole_whole _) (rsM false) (rsM_whole false) (rsM true) (rsM_whole true)
        agM (Memref.isWhole_whole _) w1M (Memref.isWhole_whole _) w2M (Memref.isWhole_whole _) cc0_scratch8 cc0_scratch9 cc0_scratch10 cc0_scratch11 cc0_scratch12
        cc0_scratch13 cc0_scratch14 cc0_scratch15 cc0_scratch16 cc0_scratch17 cc0_scratch18)
      (fun _ => iprop(Final (insOf m) c ∗ (dats m ρ 0 c).owesAt () t0_0.succ ∗ stg c cc0_stg0_0 ((insOf m).w1 c) ∗ stg c cc0_stg1_0 ((insOf m).w2 c)))
  rw [body_eq]
  show _ ⊢ WP c ((Prog.lift .deviceId : Pg F (Dev nD)) >>= fun e => ring (Memref.whole cc0_stg0_0) (Memref.whole cc0_stg1_0) e) _
  rw [wp_named]
  unfold Dat.owesAt Pipeline.owesWithin
  iintro ⟨⟨HS, HT⟩, ⟨%W, %hW, HO⟩, ⟨%d0, H0⟩, ⟨%d1, H1⟩⟩
  ihave H0' := (Entails.of_eq (show stg c cc0_stg0_0 ((dats m ρ 0 c).before (0 : Fin 2) t0_0 d0) = own c (Memref.whole cc0_stg0_0) fullShare ((insOf m).w1 c) from by
    rw [before_0])) $$ H0
  ihave H1' := (Entails.of_eq (show stg c cc0_stg1_0 ((dats m ρ 0 c).before (1 : Fin 2) t0_0 d1) = own c (Memref.whole cc0_stg1_0) fullShare ((insOf m).w2 c) from by
    rw [before_1])) $$ H1
  iapply (wp_body (insOf m) c (Memref.whole cc0_stg0_0) (Memref.whole cc0_stg1_0) (W := W)) $$ [HS HT HO H0' H1']
  · isplitl [HS HT HO]
    · isplitl [HS]; · iexact HS
      isplitl [HT]; · iexact HT
      iexact HO
    isplitl [H0']; · iexact H0'
    iexact H1'
  iintro ⟨HF, ⟨%W', HO⟩, H0, H1⟩
  isplitl [HF]; · iexact HF
  isplitl [HO]
  · iexists W'
    isplitr; · ipureintro; exact fun _ _ => Or.inl trivial
    iexact HO
  isplitl [H0]; · iexact H0
  iexact H1

end Cert.KernelIdeal.Ringed
-- ==== Proof.Launch.lean ====
/- The launch: what the eight devices are dealt, the credit each starts with, and the run of the whole program. -/
module

public import proofs.«01_k».proof.Proof.Body
public import Idealize.ShloMosaic.Lib.Pipeline.CollectiveSegs

@[expose] public section

noncomputable section

namespace Cert.KernelIdeal.Ringed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ UU ℕ

section Deal
variable (I : Ins F)

theorem ownSemFacts : Pipeline.OwnSemFacts cfg0.spec osem := by decide +kernel

/-! ## Minting -/

def ringCells : Finset (GSem nD τ sig) := Finset.univ.map ⟨kcell, kcell_inj⟩

/-- A device's own cells' duties: its barrier's two, and of each hop's cells one. -/
abbrev TIx := Bool ⊕ (Hop × Bool)
def tokOf : Dev nD × TIx → GSem nD τ sig × ℕ × Bool
  | (c, .inl d) => (barCell c, 0, d)
  | (c, .inr p) => (kcell (c, some p), 0, false)
theorem tokOf_inj : Function.Injective tokOf := by
  rintro ⟨c, d | p⟩ ⟨c', d' | p'⟩ e <;> have e1 := congrArg Prod.fst e <;> have e2 := congrArg (fun x => x.2.2) e
  · have h := kcell_inj (a₁ := (c, none)) (a₂ := (c', none)) e1
    cases h; cases e2; rfl
  · cases kcell_inj (a₁ := (c, none)) (a₂ := (c', some p')) e1
  · cases kcell_inj (a₁ := (c, some p)) (a₂ := (c', none)) e1
  · cases kcell_inj (a₁ := (c, some p)) (a₂ := (c', some p')) e1
    rfl
def ringToks : Finset (GSem nD τ sig × ℕ × Bool) := Finset.univ.map ⟨tokOf, tokOf_inj⟩

def u₀ : UU :=
  (initOf (Pipeline.cells cfgs cellOf_inj) (Pipeline.launchToks cfgs cellOf_inj), (initOf ringCells ringToks, 1))

/-- The duties of device `c`'s own cells. -/
def toks (c : Dev nD) : sProp 𝕄 :=
  iprop((dutyTok ER (barCell c) 0 false ∗ dutyTok ER (barCell c) 0 true)
    ∗ (bigSep Finset.univ fun h => dutyTok ER (sendCell c h) 0 false) ∗ (bigSep Finset.univ fun h => dutyTok ER (recvCell c h) 0 false))
/-- Its places on them. -/
def spots (c : Dev nD) : sProp 𝕄 :=
  iprop(atPos ER (barCell c) 0 ∅ 0
    ∗ (bigSep Finset.univ fun h => atPos ER (sendCell c h) 0 ∅ 0) ∗ (bigSep Finset.univ fun h => atPos ER (recvCell c h) 0 ∅ 0))

/-- What is dealt to device `c` when the ring's rounds are minted. -/
def Deal (c : Dev nD) : sProp 𝕄 :=
  iprop((bigSep Finset.univ fun k : KIx => roundState ER (ringRd I) (kcell (c, k)) 0)
    ∗ (bigSep Finset.univ fun k : KIx => reached ER (kcell (c, k)) 0) ∗ spots c ∗ toks c)

omit [FloatOps F] in
/-- What is said of a device's cells is said of its barrier, of the senders' cells and of the receivers'. -/
theorem by_cell (c : Dev nD) (Φ : GSem nD τ sig → sProp 𝕄) : (bigSep Finset.univ fun k : KIx => Φ (kcell (c, k)))
    = iprop(Φ (barCell c) ∗ (bigSep Finset.univ fun h => Φ (sendCell c h)) ∗ (bigSep Finset.univ fun h => Φ (recvCell c h))) := by
  rw [bigSep_opt id Function.bijective_id (fun k : KIx => Φ (kcell (c, k)))]
  exact congrArg (fun P : sProp 𝕄 => iprop(Φ (barCell c) ∗ P)) (hop_cells (fun p => Φ (kcell (c, some p))))

theorem fund_ring : BI.own (ER (initOf ringCells ringToks)) ⊢ (|==> bigSep Finset.univ (Deal I) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hA : bigSep ringCells (fun g => (atPos ER g 0 ∅ 0 : sProp 𝕄)) = bigSep Finset.univ fun c : Dev nD => spots c := by
    rw [hX]; exact bigSep_congr fun c _ => by_cell c (fun g => atPos ER g 0 ∅ 0)
  have hT : bigSep ringToks (fun x => (dutyTok ER x.1 x.2.1 x.2.2 : sProp 𝕄)) = bigSep Finset.univ fun c : Dev nD => toks c := by
    unfold ringToks
    rw [bigSep_map, bigSep_univ_prod]
    refine bigSep_congr fun c _ => ?_
    rw [bigSep_univ_sum, bigSep_bool]
    exact congrArg (fun P : sProp 𝕄 => iprop((dutyTok ER (barCell c) 0 false ∗ dutyTok ER (barCell c) 0 true) ∗ P))
      (hop_cells (fun p => (dutyTok ER (kcell (c, some p)) 0 false : sProp 𝕄)))
  iintro HX
  imod (Rounds.fund ER (ringRd I) ringCells ringToks) $$ HX with ⟨Hst, Hr, Hat, Htok⟩
  imodintro
  ihave Hst' := (Entails.of_eq (hX fun g => roundState ER (ringRd I) g 0)) $$ Hst
  ihave Hr' := (Entails.of_eq (hX fun g => reached ER g 0)) $$ Hr
  ihave Hat' := (Entails.of_eq hA) $$ Hat
  ihave Htok' := (Entails.of_eq hT) $$ Htok
  unfold Deal; simp only [bigSep_sep']
  isplitl [Hst']; · iexact Hst'
  isplitl [Hr']; · iexact Hr'
  isplitl [Hat']; · iexact Hat'
  iexact Htok'

/-! ## The cells' invariants -/

omit [FloatOps F] in
/-- The barrier semaphore is the one the region does not scope. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(Locs (F := F) c ∗ bigSep Finset.univ fun k : KIx => semVal (kcell (c, k)) 0) : sProp 𝕄) := by
  rw [ownSems_eq, unscopedSems0_eq, bigSep_opt id Function.bijective_id (fun k : KIx => (semVal (kcell (c, k)) 0 : sProp 𝕄))]
  unfold Locs
  iintro ⟨⟨HL, HS⟩, HB⟩
  isplitl [HL]; · iexact HL
  isplitl [HB]; · iexact HB
  iexact HS

/-- What a device has once its cells' invariants stand. -/
def Stood (c : Dev nD) : sProp 𝕄 :=
  iprop((bigSep Finset.univ fun k : KIx => iprop(∃ κ : ℕ, cellInv ER (ringRd I) κ (kcell (c, k))))
    ∗ (bigSep Finset.univ fun k : KIx => reached ER (kcell (c, k)) 0) ∗ spots c ∗ toks c ∗ Locs (F := F) c)

theorem core_alloc (c : Dev nD) :
    iprop(Pipeline.ownSems0 (Ix := Unit) (Name := ℕ) (U := UU) (Lvl := ℕ) (Val := Elt F) (τ := τ) osem c ∗ unscopedSems0 c ∗ Deal I c)
      ⊢ |={Set.univ}=> Stood I c := by
  unfold Deal Stood
  iintro ⟨Hos, Hus, Hst, Hr, Hat, Htok⟩
  ihave Hv := (sems0_eq (F := F) c) $$ [Hos Hus]
  · isplitl [Hos]; · iexact Hos
    iexact Hus
  icases Hv with ⟨HL, Hv⟩
  imod (show iprop((bigSep Finset.univ fun k : KIx => semVal (kcell (c, k)) 0) ∗ bigSep Finset.univ fun k : KIx => roundState ER (ringRd I) (kcell (c, k)) 0)
      ⊢ (|={Set.univ}=> bigSep Finset.univ fun k : KIx => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact HL

/-! ## Around the ring -/

/-- The duties device `c` pays: of each hop the sender's, its own, and the receiver's, the neighbour's; of the two
    neighbours' barriers one each. -/
def payToks (c : Dev nD) : sProp 𝕄 :=
  iprop((dutyTok ER (barCell (tgt true c)) 0 false ∗ dutyTok ER (barCell (tgt false c)) 0 true)
    ∗ (bigSep Finset.univ fun h => dutyTok ER (sendCell c h) 0 false) ∗ (bigSep Finset.univ fun h => dutyTok ER (recvCell (tgt h.d c) h) 0 false))

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    bigSep_univ_equiv (along true) (fun c : Dev nD => (dutyTok ER (barCell c) 0 false : sProp 𝕄)),
    bigSep_univ_equiv (along false) (fun c : Dev nD => (dutyTok ER (barCell c) 0 true : sProp 𝕄)),
    bigSep_univ_comm (fun (c : Dev nD) (h : Hop) => (dutyTok ER (recvCell c h) 0 false : sProp 𝕄)),
    bigSep_univ_comm (fun (c : Dev nD) (h : Hop) => (dutyTok ER (recvCell (tgt h.d c) h) 0 false : sProp 𝕄))]
  refine congrArg₂ (fun P Q : sProp 𝕄 => iprop(P ∗ Q)) rfl (congrArg₂ (fun P Q : sProp 𝕄 => iprop(P ∗ Q)) rfl (bigSep_congr fun h _ => ?_))
  exact bigSep_univ_equiv (along h.d) (fun c : Dev nD => (dutyTok ER (recvCell c h) 0 false : sProp 𝕄))

omit [FloatOps F] in
theorem lin_intro (c : Dev nD) : iprop(spots c ∗ payToks c) ⊢ (Lin (F := F) c : sProp 𝕄) := by
  unfold Lin Pre0 spots payToks
  rw [bigSep_sep', bigSep_sep']
  iintro ⟨⟨Hb, Hs, Hr⟩, ⟨Ht1, Ht2⟩, Ht3, Ht4⟩
  isplitl [Ht3 Ht4 Hs]
  · isplitl [Ht3]; · iexact Ht3
    isplitl [Ht4]; · iexact Ht4
    iexact Hs
  isplitl [Hr]; · iexact Hr
  isplitl [Hb]; · iexact Hb
  isplitl [Ht1]; · iexact Ht1
  iexact Ht2

/-- What the deal leaves each device with. -/
def Dealt (c : Dev nD) : sProp 𝕄 := iprop((∃ K, Book I K ∗ Lin (F := F) c) ∗ Locs (F := F) c)

theorem regroup : (bigSep Finset.univ fun c : Dev nD => Stood I c) ⊢ bigSep Finset.univ (Dealt I) := by
  unfold Stood
  rw [bigSep_sep', bigSep_sep', bigSep_sep', bigSep_sep',
    ← bigSep_univ_prod (fun ck : Dev nD × KIx => iprop(∃ κ : ℕ, cellInv ER (ringRd I) κ (kcell ck))),
    ← bigSep_univ_prod (fun ck : Dev nD × KIx => (reached ER (kcell ck) 0 : sProp 𝕄)), toks_around]
  iintro ⟨HI, #HR, Hat, Htok, HL⟩
  ihave HK := (BI.bigSep_exists_pi Finset.univ (fun (ck : Dev nD × KIx) (κ : ℕ) => (cellInv ER (ringRd I) κ (kcell ck) : sProp 𝕄))) $$ HI
  icases HK with ⟨%K, #HI⟩
  have h1 : ∀ c : Dev nD, iprop(Book I K ∗ ((spots c ∗ payToks c) ∗ Locs (F := F) c)) ⊢ Dealt I c := fun c => by
    unfold Dealt
    iintro ⟨#HB, HS, HL⟩
    isplitl [HS]
    · iexists K
      isplitr; · iexact HB
      iapply (lin_intro (F := F) c) $$ HS
    iexact HL
  iapply (show iprop(Book I K ∗ bigSep Finset.univ fun c : Dev nD => iprop((spots c ∗ payToks c) ∗ Locs (F := F) c)) ⊢ bigSep Finset.univ (Dealt I) from
    (sep_mono_left (BI.bigSep_of_persistent Finset.univ (Book I K))).trans (by rw [← bigSep_sep']; exact bigSep_mono fun c _ => h1 c))
  isplitr
  · unfold Book
    isplitr; · iexact HI
    iexact HR
  iapply (Entails.of_eq (show iprop(((bigSep Finset.univ fun c : Dev nD => spots c) ∗ (bigSep Finset.univ fun c : Dev nD => payToks c)) ∗ bigSep Finset.univ fun c : Dev nD => Locs (F := F) c)
    = (bigSep Finset.univ fun c : Dev nD => iprop((spots c ∗ payToks c) ∗ Locs (F := F) c) : sProp 𝕄) from by rw [bigSep_sep', bigSep_sep']))
  isplitr [HL]
  · isplitl [Hat]; · iexact Hat
    iexact Htok
  iexact HL

/-- Of every device at once: the semaphores at zero become the cells' invariants, and the duties go around the ring. -/
theorem glob : (bigSep Finset.univ fun c => iprop(Pipeline.ownSems0 (Ix := Unit) (Name := ℕ) (U := UU) (Lvl := ℕ) (Val := Elt F) (τ := τ) osem c ∗ unscopedSems0 c ∗ Deal I c) : sProp 𝕄)
    ⊢ |={Set.univ}=> bigSep Finset.univ (Dealt I) :=
  ((bigSep_mono fun c _ => core_alloc I c).trans (bigSep_fupd _ _)).trans (BI.fupd_mono (regroup I))

/-! ## The credit -/

omit [FloatOps F] in
theorem cred_hop (h : Hop) (c : Dev nD) :
    (Pipeline.launchCred (fun d : Dev nD => tallyAt (recvCell (tgt h.d d) h) () N) c : sProp 𝕄) ⊢ cred (tallyAt (recvCell c h) () N) :=
  Pipeline.launchCred_tallyAt (csem (some (h, true))) (tgt h.d) (frm h.d) (tgt_frm h.d) (frm_tgt h.d) () N c
omit [FloatOps F] in
theorem cred_bar (e : Bool) (c : Dev nD) :
    (Pipeline.launchCred (fun d : Dev nD => tallyAt (barCell (tgt e d)) () 1) c : sProp 𝕄) ⊢ cred (tallyAt (barCell c) () 1) :=
  Pipeline.launchCred_tallyAt (csem none) (tgt e) (frm e) (tgt_frm e) (frm_tgt e) () 1 c

omit [FloatOps F] in
theorem creds (c : Dev nD) : (Pipeline.launchCred owe₀ c : sProp 𝕄) ⊢ Credits (F := F) c := by
  have e : (Pipeline.launchCred owe₀ c : sProp 𝕄)
      = iprop(((bigSep (after 0) fun h => Pipeline.launchCred (fun d : Dev nD => tallyAt (recvCell (tgt h.d d) h) () N) c)
          ∗ Pipeline.launchCred (fun d : Dev nD => tallyAt (barCell (tgt false d)) () 1) c)
        ∗ Pipeline.launchCred (fun d : Dev nD => tallyAt (barCell (tgt true d)) () 1) c) := by
    show Pipeline.launchCred (fun d => owe₁ d + tallyAt (barCell (tgt true d)) () 1) c = _
    rw [Pipeline.launchCred_add]
    refine congrArg (fun P : sProp 𝕄 => iprop(P ∗ _)) ?_
    show Pipeline.launchCred (fun d => owe d 0 + tallyAt (barCell (tgt false d)) () 1) c = _
    rw [Pipeline.launchCred_add]
    refine congrArg (fun P : sProp 𝕄 => iprop(P ∗ _)) ?_
    exact Pipeline.launchCred_sum (after 0) (fun h d => tallyAt (recvCell (tgt h.d d) h) () N) c
  have h0 : after 0 = Finset.univ := by ext x; simp [after]
  rw [e, h0]
  unfold Credits
  iintro ⟨⟨H1, H2⟩, H3⟩
  isplitl [H1]
  · iapply (show (bigSep Finset.univ fun h => Pipeline.launchCred (fun d : Dev nD => tallyAt (recvCell (tgt h.d d) h) () N) c)
      ⊢ (bigSep Finset.univ fun h => cred (tallyAt (recvCell c h) () N) : sProp 𝕄) from bigSep_mono fun h _ => cred_hop h c) $$ H1
  ihave H2' := (cred_bar (F := F) false c) $$ H2
  ihave H3' := (cred_bar (F := F) true c) $$ H3
  iapply (show iprop(cred (tallyAt (barCell c) () 1) ∗ cred (tallyAt (barCell c) () 1)) ⊢ (cred (tallyAt (barCell c) () 2) : sProp 𝕄) from
    (cred_add _ _).2.trans (Entails.of_eq (congrArg cred (tallyAt_add (barCell c) () 1 1))))
  isplitl [H2']; · iexact H2'
  iexact H3'
end Deal

/-! ## The run -/

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ Dealt (insOf m) c)
      ⊢ |={Set.univ}=> iprop(Start (insOf m) c ∗ emp) := by
  have e : (Pipeline.unscopedRestP Pipeline.Prefetch.none cfg0.spec c (fun b => m ((c : Thread nD τ).loc b)) : sProp 𝕄)
      = iprop(own c xM fullShare ((insOf m).x c) ∗ own c outM fullShare (m ((c : Thread nD τ).loc main_v1))) := by
    rw [Pipeline.unscopedRestP_none, unscopedRest0_eq]
    exact congrArg₂ (fun P Q : sProp 𝕄 => iprop(P ∗ Q)) (owns_whole (c : Thread nD τ) main_arg0 fullShare _).symm (owns_whole (c : Thread nD τ) main_v1 fullShare _).symm
  rw [e]
  unfold Start Dealt
  iintro ⟨⟨Hx, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hx]; · iexact Hx
    iexists _; iexact Ho
  · iempintro

theorem scratch_eq (c : Dev nD) : (Pipeline.scopedRest cfg0.spec c : sProp 𝕄) = Scratch (F := F) c := by
  rw [scopedRest0_eq]
  unfold Scratch
  exact congrArg₂ (fun P Q : sProp 𝕄 => iprop(P ∗ Q)) (any_whole c cc0_scratch0)
    (congrArg₂ (fun P Q : sProp 𝕄 => iprop(P ∗ Q)) (any_whole c cc0_scratch1)
    (congrArg₂ (fun P Q : sProp 𝕄 => iprop(P ∗ Q)) (any_whole c cc0_scratch2)
    (congrArg₂ (fun P Q : sProp 𝕄 => iprop(P ∗ Q)) (any_whole c cc0_scratch3)
    (congrArg₂ (fun P Q : sProp 𝕄 => iprop(P ∗ Q)) (any_whole c cc0_scratch4)
    (congrArg₂ (fun P Q : sProp 𝕄 => iprop(P ∗ Q)) (any_whole c cc0_scratch5)
    (congrArg₂ (fun P Q : sProp 𝕄 => iprop(P ∗ Q)) (any_whole c cc0_scratch6) (any_whole c cc0_scratch7)))))))

theorem phi0_intro (c : Dev nD) :
    iprop(Start (insOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Start (insOf m) c ∗ Scratch c) from rfl, scratch_eq]
  iintro ⟨Hs, -, Hr⟩
  isplitl [Hs]; · iexact Hs
  iexact Hr

/-- What is left of a device when the region is done. -/
def Left (c : Dev nD) : sProp 𝕄 :=
  iprop(unscopedSems0 c ∗ ((c : Thread nD τ).loc main_arg0 ↦{fullShare} m ((c : Thread nD τ).loc main_arg0))
    ∗ ((c : Thread nD τ).loc main_v1 ↦{fullShare} outC' (insOf m) c))

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Final (insOf m) c from rfl, scratch_eq, ownSems_eq]
  unfold Final Left Locs
  rw [unscopedSems0_eq]
  iintro ⟨HT, HS, Hb, Hx, Ho⟩
  ihave Hx' := (Entails.of_eq (owns_whole (c : Thread nD τ) main_arg0 fullShare ((insOf m).x c))) $$ Hx
  ihave Ho' := (Entails.of_eq (owns_whole (c : Thread nD τ) main_v1 fullShare (outC' (insOf m) c))) $$ Ho
  isplitl [Hb Hx' Ho']
  · isplitl [Hb]; · iexact Hb
    isplitl [Hx']; · iexact Hx'
    iexact Ho'
  isplitl [HS]; · iexact HS
  iexact HT

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_start c _ (lv_dma (by fin_cases w <;> fin_cases s <;> decide) c)
    · show _ ⊢ MayWait (c : Thread nD τ) _ () 0
      rw [MayWait_zero]; iintro -; iempintro

/-- What a run ends in: the arguments as they were, and each device's result. -/
def Ended (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v1) = outC' (insOf m) c

/-- What is read off what is left. -/
def Seen (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ s.mem ((c : Thread nD τ).loc main_v1) = outC' (insOf m) c

theorem left_read (c : Dev nD) (s' : Phys nD τ sig (Elt F)) :
    iprop(Left m c ∗ emp ∗ SI s') ⊢ (|={Set.univ}=> iprop(⌜Seen m c s'.mem⌝ ∗ SI s') : sProp 𝕄) := by
  unfold Left
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, Buf.eq_of_forall_mem_univ hx, Buf.eq_of_forall_mem_univ ho⟩
  iexact HSI

set_option maxRecDepth 65536 in
/-- From any memory with zero counters, for any float values: every weakly fair execution of the program on the eight
    devices ends, with every argument as it was, each device's result as the ring's steps make it, and every
    semaphore at zero. -/
theorem run_main : θ_run defs (onTc (τ := τ) (main (F := F))) (s₀ m ρ) (fun r => (∀ c, Ended m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := Deal (insOf m)) (G' := Dealt (insOf m)) (u₀ := u₀)
    (hu₀ := by
      unfold u₀
      iintro Hu
      ihave H := (ownU_pair _ _) $$ Hu
      icases H with ⟨HP, HX⟩
      imod (show BI.own (embR ((initOf ringCells ringToks, 1) : UC)) ⊢ (|==> bigSep Finset.univ (Deal (insOf m)) : sProp 𝕄) from fund_ring (insOf m)) $$ HX with HG
      imodintro
      isplitl [HP]; · iexact HP
      iexact HG)
    (hglob := glob (insOf m))
    (hA := fun _ _ => rfl) (hpf := fun _ k => k.elim0)
    (X := Start (insOf m)) (Y := Left m) (Z := fun _ => iprop(emp))
    (hX := start_intro m ρ) (hin := phi0_intro m ρ) (hout := phi1_exit m ρ)
    (QY := Seen m)
    (hY := left_read m)
    (hQ := fun s h hs => ⟨fun c => ⟨⟨(h c).2.2.2.1, ((h c).1 0).trans ((dats (F := F) m ρ 0 c).arrAt_in (0 : Fin 2) rfl _), ((h c).1 1).trans ((dats (F := F) m ρ 0 c).arrAt_in (1 : Fin 2) rfl _)⟩, (h c).2.2.2.2⟩,
      sem_eq_zero hs fun c => (h c).2.2.1⟩)

end Cert.KernelIdeal.Ringed
-- ==== Proof.Sums.lean ====
/- Over the extended reals: what the ring's partial sums are. A quarter of the gathered product is, entry by entry, the
   product of a row of the activations, as the devices hold it in turn, with a column of the first weights; a half of
   the result is the gathered rows' product with the device's second weights. -/
module

public import proofs.«01_k».proof.Proof.Values
public import Idealize.ShloMosaic.Lib.MatmulPlain
public import Idealize.ShloMosaic.Lib.ValueIdx

@[expose] public section

noncomputable section

namespace Cert.KernelIdeal.Ringed

open Idealize.ShloMosaic Idealize.ShloMosaic.TcCoe Idealize.SL.Sem
open Idealize.ShloMosaic.ValueIdx
open Cert.KernelIdeal.Gen
open scoped BigOperators

variable (I : Ins Ideal)

/-! ## One device's share -/

/-- Row `n` of device `c`'s activations times column `j` of its first weights. -/
def share (n : Fin 8192) (j : Fin 1024) (c : Dev nD) : EReal := ∑ l : Fin 1024, I.x c (ix2 n l) * I.w1 c (ix2 l j)

/-- The row of the whole that row `r` of a quarter is. -/
def rowOf (k : Fin 8) (d : Bool) (q : Fin 2) (r : Fin 256) : Fin 8192 :=
  ⟨1024 * k.val + 512 * bitN d + 256 * q.val + r.val, by have := bitN_le d; omega⟩

/-- A plain product into zero, read at an index. -/
theorem plain_zero {M K N : ℕ} {φ₁ φ₂ : FTy} (lhs : FVec Ideal ⟨2, ![M, K]⟩ φ₁) (rhs : FVec Ideal ⟨2, ![K, N]⟩ φ₂) (r : Fin M) (j : Fin N) :
    FloatOps.matmul (DotDims.plain M K N) none lhs rhs (constant ⟨2, ![M, N]⟩ .f32 0x00000000#32) (ix2 r j) = ∑ l : Fin K, lhs (ix2 r l) * rhs (ix2 l j) := by
  rw [Ideal.matmul_plain_apply]
  show Ideal.ofBits .f32 0x00000000#32 + _ = _
  rw [Ideal.ofBits_zero_f32, zero_add]

theorem w1b_apply (c : Dev nD) : w1b I c = I.w1 c := by
  funext i
  show I.w1 c (Shape.reshapeEquiv _ (Shape.reshapeEquiv _ i)) = _
  rw [Shape.reshapeEquiv_self, Shape.reshapeEquiv_self]
theorem w2b_apply (c : Dev nD) : w2b I c = I.w2 c := by
  funext i
  show I.w2 c (Shape.reshapeEquiv _ (Shape.reshapeEquiv _ i)) = _
  rw [Shape.reshapeEquiv_self, Shape.reshapeEquiv_self]

/-- An entry of a quarter of the activations. -/
theorem xH_apply (c : Dev nD) (k : Fin 8) (d : Bool) (q : Fin 2) (r : Fin 256) (l : Fin 1024) :
    xH I c k d ((stR q).emb (ix2 r l)) = I.x c (ix2 (rowOf k d q r) l) := by
  refine congrArg (I.x c) (idx2_ext ?_ ?_)
  · have h := unit_emb_val (s := S8192x1024) (rowOff k d) S512x1024.size (rowX_inb k d) ((stR q).emb (ix2 r l)) 0
    have h' := unit_emb_val (s := S512x1024) ![256 * q.val, 0] S256x1024.size (st_inb q) (ix2 r l) 0
    refine h.trans ?_
    show (1024 * k.val + 512 * bitN d) + ((stR q).emb (ix2 r l) 0).val = 1024 * k.val + 512 * bitN d + 256 * q.val + r.val
    have h2 : ((stR q).emb (ix2 r l) 0).val = 256 * q.val + r.val := h'
    omega
  · have h := unit_emb_val (s := S8192x1024) (rowOff k d) S512x1024.size (rowX_inb k d) ((stR q).emb (ix2 r l)) 1
    have h' := unit_emb_val (s := S512x1024) ![256 * q.val, 0] S256x1024.size (st_inb q) (ix2 r l) 1
    refine h.trans ?_
    show 0 + ((stR q).emb (ix2 r l) 1).val = l.val
    have h2 : ((stR q).emb (ix2 r l) 1).val = 0 + l.val := h'
    omega

theorem part_apply (c : Dev nD) (k : Fin 8) (d : Bool) (q : Fin 2) (r : Fin 256) (j : Fin 1024) :
    part I c k d q (ix2 r j) = share I (rowOf k d q r) j c := by
  refine (plain_zero (φ₁ := .bf16) (φ₂ := .bf16) (fun i => xH I c k d ((stR q).emb i)) (w1b I c) r j).trans ?_
  unfold share
  refine Finset.sum_congr rfl fun l _ => ?_
  rw [w1b_apply]
  exact congrArg (· * _) (xH_apply I c k d q r l)

/-! ## Around the ring -/

/-- A partial sum is the shares of the devices it has passed. -/
theorem acc_apply (d : Bool) (q : Fin 2) (r : Fin 256) (j : Fin 1024) (s : Nat) : ∀ c : Dev nD,
    acc I d q s c (ix2 r j) = ∑ t ∈ Finset.range (s + 1), share I (rowOf (bk d (s + 1) c) d q r) j ((frm d)^[t] c) := by
  induction s with
  | zero => intro c; rw [Finset.sum_range_one]; exact part_apply I c _ d q r j
  | succ s ih =>
    intro c
    rw [Finset.sum_range_succ']
    show (part I c (bk d (s + 2) c) d q (ix2 r j) + acc I d q s (frm d c) (ix2 r j) : EReal) = _
    rw [part_apply, ih, ← bk_succ]
    exact add_comm _ _

theorem round_bij : ∀ (d : Bool) (c : Dev nD), Function.Bijective fun t : Fin 8 => (frm d)^[t.val] c := by decide +kernel

/-- The gathered product: every device's share. -/
theorem gat_apply (k : Fin 8) (d : Bool) (q : Fin 2) (r : Fin 256) (j : Fin 1024) :
    gat I k d q (ix2 r j) = ∑ c : Dev nD, share I (rowOf k d q r) j c := by
  unfold gat
  rw [acc_apply, show bk d (7 + 1) (dev k) = k from (bk_eight d _).trans (bk_dev d k), Finset.sum_range]
  exact (round_bij d (dev k)).sum_comp (fun c => share I (rowOf k d q r) j c)

/-! ## The result -/

/-- Row `n` of the product with the first weights, at column `j`. -/
def hid (n : Fin 8192) (j : Fin 1024) : EReal := ∑ c : Dev nD, share I n j c

theorem outQ_apply (c : Dev nD) (k : Fin 8) (d : Bool) (q : Fin 2) (r : Fin 256) (b : Fin 512) :
    outQ I c k d q (ix2 r b) = ∑ j : Fin 1024, hid I (rowOf k d q r) j * I.w2 c (ix2 j b) := by
  show FloatOps.matmul (DotDims.plain 256 1024 512) none (gat I k d q) (w2b I c) (constant S256x512 .f32 0x00000000#32) (ix2 r b) = _
  refine (plain_zero (φ₁ := .bf16) (φ₂ := .bf16) _ _ r b).trans (Finset.sum_congr rfl fun j _ => ?_)
  rw [w2b_apply]
  exact congrArg (· * _) (gat_apply I k d q r j)

theorem outH_apply (c : Dev nD) (k : Fin 8) (d : Bool) (q : Fin 2) (r : Fin 256) (i : S512x512.Idx) (b : Fin 512)
    (h0 : (i 0).val = 256 * q.val + r.val) (h1 : (i 1).val = b.val) :
    outH I c k d i = ∑ j : Fin 1024, hid I (rowOf k d q r) j * I.w2 c (ix2 j b) := by
  have hi : i = ix2 (i 0) b := idx2_ext rfl h1
  rw [hi]
  show FloatOps.matmul (DotDims.plain 512 1024 512) none (gatH I k d) (w2b I c) (constant S512x512 .f32 0x00000000#32) (ix2 (i 0) b) = _
  refine (plain_zero (φ₁ := .bf16) (φ₂ := .bf16) _ _ _ b).trans (Finset.sum_congr rfl fun j _ => ?_)
  rw [w2b_apply]
  exact congrArg (· * _) ((gatH_at I _ (ix2 r j) k d q h0 rfl).trans (gat_apply I k d q r j))

/-- Two quarters stacked, at an entry. -/
theorem stackE_at (f : Fin 2 → Vec Ideal S256x512 .f32) (q : Fin 2) (r : Fin 256) (i : S512x512.Idx) (b : Fin 512)
    (h0 : (i 0).val = 256 * q.val + r.val) (h1 : (i 1).val = b.val) : stack f i = f q (ix2 r b) := by
  unfold stack
  rw [show (⟨(i 0).val / 256, by have := idx2_lt0 i; omega⟩ : Fin 2) = q from Fin.ext (by show (i 0).val / 256 = _; omega)]
  exact congrArg (f q) (idx2_ext (by show (i 0).val % 256 = r.val; omega) h1)

/-- An entry of a half of the result. -/
theorem outV_apply (c : Dev nD) (k : Fin 8) (d : Bool) (q : Fin 2) (r : Fin 256) (i : S512x512.Idx) (b : Fin 512)
    (h0 : (i 0).val = 256 * q.val + r.val) (h1 : (i 1).val = b.val) :
    outV I c k d i = ∑ j : Fin 1024, hid I (rowOf k d q r) j * I.w2 c (ix2 j b) := by
  unfold outV
  split
  · exact outH_apply I c k d q r i b h0 h1
  · exact (stackE_at _ q r i b h0 h1).trans (outQ_apply I c k d q r b)

/-- The chunk, direction, quarter and place of every row. -/
theorem row_of (n : Fin 8192) : ∃ (k : Fin 8) (d : Bool) (q : Fin 2) (r : Fin 256), rowOf k d q r = n := by
  refine ⟨⟨n.val / 1024, by omega⟩, rowD n.val, rowQ n.val, rowIn n.val 256 (by decide), Fin.ext ?_⟩
  have hd : bitN (rowD n.val) = n.val / 512 % 2 := by
    unfold rowD
    by_cases h : n.val / 512 % 2 = 1
    · rw [decide_eq_true h, h]; rfl
    · rw [decide_eq_false h]; show 0 = _; omega
  show 1024 * (n.val / 1024) + 512 * bitN (rowD n.val) + 256 * (n.val / 256 % 2) + n.val % 256 = n.val
  omega

/-- An entry of the result: the gathered row times a column of the second weights. -/
theorem outC'_apply (c : Dev nD) (n : Fin 8192) (b : Fin 512) :
    outC' I c (ix2 n b) = ∑ j : Fin 1024, hid I n j * I.w2 c (ix2 j b) := by
  obtain ⟨k, d, q, r, rfl⟩ := row_of n
  have hq := q.isLt
  have hr := r.isLt
  rw [outC'_at I c (ix2 (rowOf k d q r) b) (ix2 (⟨256 * q.val + r.val, by omega⟩ : Fin 512) b) k d (by
    show 1024 * k.val + 512 * bitN d + 256 * q.val + r.val = 1024 * k.val + 512 * bitN d + (256 * q.val + r.val); omega) rfl]
  exact outV_apply I c k d q r _ b rfl rfl

end Cert.KernelIdeal.Ringed
-- ==== Proof.Value.lean ====
/- Over the extended reals: where the devices hold the blocks of three whole arrays, each device's result is its block of
   the whole product, (x @ w1) @ w2. -/
module

public import proofs.«01_k».proof.Proof.Sums
public import proofs.«01_k».proof.Proof.Body
public import proofs.«01_k».proof.Proof.Gen.ReferenceIdeal
public import Idealize.ShloMosaic.Lib.Layout
public import Idealize.ShloMosaic.Lib.StackMember
public import Idealize.ShloMosaic.Lib.Pipeline.Value

@[expose] public section

set_option backward.proofsInPublic true

noncomputable section

namespace Cert.KernelIdeal.Ringed

open Idealize.ShloMosaic Idealize.ShloMosaic.TcCoe Idealize.SL.Sem
open Idealize.ShloMosaic.ValueIdx
open Cert.KernelIdeal.Gen
open scoped BigOperators

/-! ## The blocks -/

/-- The first weights' one block is the whole array, and the second weights' too. -/
theorem insOf_w1 (m : (ℓ : Loc nD τ sig) → Buf (Elt Ideal) ℓ) (c : Dev nD) : (insOf m).w1 c = m ((c : Thread nD τ).loc main_arg1) := by
  funext i
  refine congrArg (m ((c : Thread nD τ).loc main_arg1)) (idx2_ext ?_ ?_)
  · exact Pipeline.Window.rect_emb_val_of_index_zero (cfg0.win 0) t0_0 0 rfl i
  · exact Pipeline.Window.rect_emb_val_of_index_zero (cfg0.win 0) t0_0 1 rfl i
theorem insOf_w2 (m : (ℓ : Loc nD τ sig) → Buf (Elt Ideal) ℓ) (c : Dev nD) : (insOf m).w2 c = m ((c : Thread nD τ).loc main_arg2) := by
  funext i
  refine congrArg (m ((c : Thread nD τ).loc main_arg2)) (idx2_ext ?_ ?_)
  · exact Pipeline.Window.rect_emb_val_of_index_zero (cfg0.win 1) t0_0 0 rfl i
  · exact Pipeline.Window.rect_emb_val_of_index_zero (cfg0.win 1) t0_0 1 rfl i

/-- A sum over the long axis, device by device. -/
theorem sum_blocks (f : Fin 8192 → EReal) :
    ∑ L : Fin 8192, f L = ∑ c : Fin 8, ∑ l : Fin 1024, f ⟨c.val * 1024 + l.val, by omega⟩ := by
  rw [← Fintype.sum_prod_type', ← (finProdFinEquiv (m := 8) (n := 1024)).sum_comp]
  refine Finset.sum_congr rfl fun p _ => congrArg f (Fin.ext ?_)
  show p.2.val + 1024 * p.1.val = p.1.val * 1024 + p.2.val
  omega

section Whole
variable (I : Ins Ideal) (X : Vec Ideal ⟨2, ![8192, 8192]⟩ .f32) (W1 : Vec Ideal ⟨2, ![8192, 1024]⟩ .f32) (W2 : Vec Ideal ⟨2, ![1024, 4096]⟩ .f32)
  (hX : ∀ c : Dev nD, I.x c = Layout.block ⟨2, ![8192, 1024]⟩ ⟨2, ![8192, 8192]⟩ 1 8 c X)
  (hW1 : ∀ c : Dev nD, I.w1 c = Layout.block ⟨2, ![1024, 1024]⟩ ⟨2, ![8192, 1024]⟩ 0 8 c W1)
  (hW2 : ∀ c : Dev nD, I.w2 c = Layout.block ⟨2, ![1024, 512]⟩ ⟨2, ![1024, 4096]⟩ 1 8 c W2)

include hX hW1 in
/-- The devices' shares together are the whole row times the whole column. -/
theorem hid_eq (n : Fin 8192) (j : Fin 1024) : hid I n j = ∑ L : Fin 8192, X (ix2 n L) * W1 (ix2 L j) := by
  rw [sum_blocks]
  unfold hid share
  refine Finset.sum_congr rfl fun c _ => Finset.sum_congr rfl fun l _ => ?_
  have hc : c.val < 8 := c.isLt
  have hl := l.isLt
  have ex : I.x c (ix2 n l) = X (ix2 n (⟨c.val * 1024 + l.val, by omega⟩ : Fin 8192)) := by
    rw [hX]; exact congrArg X (idx2_ext rfl rfl)
  have ew : I.w1 c (ix2 l j) = W1 (ix2 (⟨c.val * 1024 + l.val, by omega⟩ : Fin 8192) j) := by
    rw [hW1]; exact congrArg W1 (idx2_ext rfl rfl)
  rw [ex, ew]

include hX hW1 hW2 in
/-- A device's result is its block of the whole product. -/
theorem out_eq (c : Dev nD) :
    outC' I c = Layout.block ⟨2, ![8192, 512]⟩ ⟨2, ![8192, 4096]⟩ 1 8 c
      (Host.dotGeneral (F := Ideal) (φ₁ := .f32) (φ₂ := .f32) (DotDims.plain 8192 1024 4096) none (Host.dotGeneral (F := Ideal) (φ₁ := .f32) (φ₂ := .f32) (DotDims.plain 8192 8192 1024) none X W1) W2) := by
  funext i
  obtain ⟨n, b, rfl⟩ : ∃ (n : Fin 8192) (b : Fin 512), i = ix2 n b := ⟨i 0, i 1, eq_ix2 i⟩
  have hc : c.val < 8 := c.isLt
  have hb := b.isLt
  rw [outC'_apply, Layout.block_apply, show Layout.Tiles.idx (S := ⟨2, ![8192, 512]⟩) (T := ⟨2, ![8192, 4096]⟩) (a := 1) (by decide) c (ix2 n b)
    = ix2 n (⟨c.val * 512 + b.val, by omega⟩ : Fin 4096) from idx2_ext rfl rfl, StackMember.dotGeneral_plain_apply]
  refine Finset.sum_congr rfl fun j _ => ?_
  have ew : I.w2 c (ix2 j b) = W2 (ix2 j (⟨c.val * 512 + b.val, by omega⟩ : Fin 4096)) := by
    rw [hW2]; exact congrArg W2 (idx2_ext rfl rfl)
  rw [StackMember.dotGeneral_plain_apply, hid_eq I X W1 hX hW1, ew]
end Whole

end Cert.KernelIdeal.Ringed
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's definitions are its idealized form's. -/
theorem defs_same (F : FTy → Type) [FloatOps F] : Cert.Kernel.defs (F := F) = Cert.KernelIdeal.defs (F := F) := by sl_kernel_rfl

/-- The kernel runs and leaves its arguments alone, every semaphore at zero. -/
theorem frame_kernel : Cert.quiescent_Kernel := fun m ρ _ => by
  rw [defs_same]
  exact (θ_run Cert.KernelIdeal.defs _ _).mono (fun _ h => ⟨fun c => (h.1 c).1, h.2⟩) (Cert.KernelIdeal.Ringed.run_main (F := Bits) m ρ)

/-- So does its idealized form. -/
theorem frame_kernelIdeal : Cert.quiescent_KernelIdeal := fun m ρ _ =>
  (θ_run Cert.KernelIdeal.defs _ _).mono (fun _ h => ⟨fun c => (h.1 c).1, h.2⟩) (Cert.KernelIdeal.Ringed.run_main (F := Ideal) m ρ)

/-- The reference runs and leaves its arguments alone; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with its block of the reference's result. -/
theorem value_claim : Cert.algebraic_KernelIdeal_ReferenceIdeal := fun m ρ m' ρ' _ hargs => by
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.trans ?_, (h.1 c).1⟩) (Cert.KernelIdeal.Ringed.run_main (F := Ideal) m ρ)
  exact Cert.KernelIdeal.Ringed.out_eq (Cert.KernelIdeal.Ringed.insOf m) _ _ _ (fun c => (hargs c).1)
    (fun c => (Cert.KernelIdeal.Ringed.insOf_w1 m c).trans (hargs c).2.1) (fun c => (Cert.KernelIdeal.Ringed.insOf_w2 m c).trans (hargs c).2.2) c

/-- All that is claimed. -/
theorem claim : Cert.Claim := ⟨Cert.Kernel.Gen.facts, Cert.KernelIdeal.Gen.facts, Cert.ReferenceIdeal.Gen.facts,
  frame_kernel, frame_kernelIdeal, frame_reference, trivial, value_claim⟩

end Cert.Proof

end
